-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_swaps_ReferenceIdeal : Cert.Pre_pi_swaps_ReferenceIdeal.Facts),
    quiescent_Kernel (hKernel := hKernel) (hPre_pi_swaps_Kernel := hPre_pi_swaps_Kernel)
    ∧ quiescent_KernelIdeal (hKernelIdeal := hKernelIdeal) (hPre_pi_swaps_Kernel := hPre_pi_swaps_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
-- ==== Pre_pi_swaps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S2x1x128x2048 : Shape := ⟨4, ![2, 1, 128, 2048]⟩
abbrev S1x1280x2048 : Shape := ⟨3, ![1, 1280, 2048]⟩
abbrev S10 : Shape := ⟨1, ![10]⟩
abbrev S7 : Shape := ⟨1, ![7]⟩
abbrev S4 : Shape := ⟨1, ![4]⟩
abbrev S1 : Shape := ⟨1, ![1]⟩
abbrev S_ : Shape := ⟨0, ![]⟩
abbrev S1x1x128x2048 : Shape := ⟨4, ![1, 1, 128, 2048]⟩
abbrev S1x128x2048 : Shape := ⟨3, ![1, 128, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .bf16⟩
  | .local _ .vmem, ⟨0, _⟩ => ⟨S2x1x128x2048, .f32⟩
  | .local _ .vmem, ⟨1, _⟩ => ⟨S1x1280x2048, .bf16⟩
  | .local _ .smem, ⟨0, _⟩ => ⟨S2, .i32⟩
  | _, _ => ⟨S1x4096x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) (v10 : BitVec 32) (v11 : BitVec 32) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v27 : BitVec 32 := Scalar.muli v2 c4_i32_13
  let v28 : BitVec 32 := Scalar.addi c0_i32_14 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_15 : BitVec 32 := 2#32
  let v29 : BitVec 32 := Scalar.muli v12 c2_i32_15
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.muli v8 c1_i32_16
  let v32 : BitVec 32 := Scalar.addi v30 v31
  v32.toNat

def k0_dev2 (d0 : Dev nD) : Nat :=
  let c0_i32_19 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_18 : BitVec 32 := 4#32
  let v33 : BitVec 32 := Scalar.muli v24 c4_i32_18
  let v34 : BitVec 32 := Scalar.addi c0_i32_19 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v35 : BitVec 32 := Scalar.muli v5 c2_i32_20
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v37 : BitVec 32 := Scalar.muli v8 c1_i32_21
  let v38 : BitVec 32 := Scalar.addi v36 v37
  v38.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v41 : BitVec 32 := Scalar.muli v5 c2_i32_25
  let v42 : BitVec 32 := Scalar.addi v40 v41
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_26 : BitVec 32 := 1#32
  let v43 : BitVec 32 := Scalar.muli v25 c1_i32_26
  let v44 : BitVec 32 := Scalar.addi v42 v43
  v44.toNat
def k0_off1 (d0 : Dev nD) (c0_i32_27 : BitVec 32) : Fin 3 → Nat :=
  let c0_i32_35 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1024_i32 : BitVec 32 := 1024#32
  let v15 : BitVec 32 := Scalar.muli v14 c1024_i32
  let v45 : BitVec 32 := Scalar.addi v15 c0_i32_27
  let c0_i32_36 : BitVec 32 := 0#32
  ![0, v45.toNat, 0]
def k0_dev4 (d0 : Dev nD) (v10 : BitVec 32) (v11 : BitVec 32) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v76 : BitVec 32 := Scalar.muli v2 c4_i32_60
  let v77 : BitVec 32 := Scalar.addi c0_i32_61 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_62 : BitVec 32 := 2#32
  let v78 : BitVec 32 := Scalar.muli v12 c2_i32_62
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v80 : BitVec 32 := Scalar.muli v8 c1_i32_63
  let v81 : BitVec 32 := Scalar.addi v79 v80
  v81.toNat
def k0_dev5 (d0 : Dev nD) (v10 : BitVec 32) (v11 : BitVec 32) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v104 : BitVec 32 := Scalar.muli v2 c4_i32_91
  let v105 : BitVec 32 := Scalar.addi c0_i32_92 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_93 : BitVec 32 := 2#32
  let v106 : BitVec 32 := Scalar.muli v12 c2_i32_93
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v108 : BitVec 32 := Scalar.muli v8 c1_i32_94
  let v109 : BitVec 32 := Scalar.addi v107 v108
  v109.toNat
def k0_dev6 (d0 : Dev nD) (v10 : BitVec 32) (v11 : BitVec 32) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v132 : BitVec 32 := Scalar.muli v2 c4_i32_122
  let v133 : BitVec 32 := Scalar.addi c0_i32_123 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_124 : BitVec 32 := 2#32
  let v134 : BitVec 32 := Scalar.muli v12 c2_i32_124
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v136 : BitVec 32 := Scalar.muli v8 c1_i32_125
  let v137 : BitVec 32 := Scalar.addi v135 v136
  v137.toNat
def k0_dev7 (d0 : Dev nD) (v10 : BitVec 32) (v11 : BitVec 32) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v160 : BitVec 32 := Scalar.muli v2 c4_i32_153
  let v161 : BitVec 32 := Scalar.addi c0_i32_154 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_155 : BitVec 32 := 2#32
  let v162 : BitVec 32 := Scalar.muli v12 c2_i32_155
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v164 : BitVec 32 := Scalar.muli v8 c1_i32_156
  let v165 : BitVec 32 := Scalar.addi v163 v164
  v165.toNat
def k0_dev8 (d0 : Dev nD) (v10 : BitVec 32) (v11 : BitVec 32) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v188 : BitVec 32 := Scalar.muli v2 c4_i32_184
  let v189 : BitVec 32 := Scalar.addi c0_i32_185 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_186 : BitVec 32 := 2#32
  let v190 : BitVec 32 := Scalar.muli v12 c2_i32_186
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v192 : BitVec 32 := Scalar.muli v8 c1_i32_187
  let v193 : BitVec 32 := Scalar.addi v191 v192
  v193.toNat
def k0_dev9 (d0 : Dev nD) (v10 : BitVec 32) (v11 : BitVec 32) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v216 : BitVec 32 := Scalar.muli v2 c4_i32_214
  let v217 : BitVec 32 := Scalar.addi c0_i32_215 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_216 : BitVec 32 := 2#32
  let v218 : BitVec 32 := Scalar.muli v12 c2_i32_216
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v220 : BitVec 32 := Scalar.muli v8 c1_i32_217
  let v221 : BitVec 32 := Scalar.addi v219 v220
  v221.toNat
def k0_off2 (d0 : Dev nD) (c896_i32 : BitVec 32) : Fin 3 → Nat :=
  let c0_i32_228 : BitVec 32 := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_4 v2
  let v17 : BitVec 32 := Scalar.muli c2_i32_5 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_6 : BitVec 32 := 1024#32
  let v19 : BitVec 32 := Scalar.muli v18 c1024_i32_6
  let v52 : BitVec 32 := Scalar.addi v19 c896_i32
  let c0_i32_229 : BitVec 32 := 0#32
  ![0, v52.toNat, 0]
def k0_dev10 (d0 : Dev nD) (v10 : BitVec 32) (v11 : BitVec 32) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v244 : BitVec 32 := Scalar.muli v2 c4_i32_244
  let v245 : BitVec 32 := Scalar.addi c0_i32_245 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_246 : BitVec 32 := 2#32
  let v246 : BitVec 32 := Scalar.muli v12 c2_i32_246
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v248 : BitVec 32 := Scalar.muli v8 c1_i32_247
  let v249 : BitVec 32 := Scalar.addi v247 v248
  v249.toNat
def k0_off3 (d0 : Dev nD) (c896_i32_28 : BitVec 32) : Fin 3 → Nat :=
  let c0_i32_258 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_7 v2
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_8 v8
  let v22 : BitVec 32 := Scalar.addi v20 v21
  let c1024_i32_9 : BitVec 32 := 1024#32
  let v23 : BitVec 32 := Scalar.muli v22 c1024_i32_9
  let v53 : BitVec 32 := Scalar.addi v23 c896_i32_28
  let c0_i32_259 : BitVec 32 := 0#32
  ![0, v53.toNat, 0]
def k0_off3_at (r : Fin 5) : BitVec 32 :=
  if r.val < 2 then
    if r.val < 1 then
      896#32
    else
      0#32
  else
    if r.val < 3 then
      128#32
    else
      if r.val < 4 then
        256#32
      else
        384#32
def k0_dev11 (d0 : Dev nD) (v10 : BitVec 32) (v11 : BitVec 32) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v272 : BitVec 32 := Scalar.muli v2 c4_i32_274
  let v273 : BitVec 32 := Scalar.addi c0_i32_275 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_276 : BitVec 32 := 2#32
  let v274 : BitVec 32 := Scalar.muli v12 c2_i32_276
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v276 : BitVec 32 := Scalar.muli v8 c1_i32_277
  let v277 : BitVec 32 := Scalar.addi v275 v276
  v277.toNat
def k0_dev12 (d0 : Dev nD) (v10 : BitVec 32) (v11 : BitVec 32) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v300 : BitVec 32 := Scalar.muli v2 c4_i32_304
  let v301 : BitVec 32 := Scalar.addi c0_i32_305 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_306 : BitVec 32 := 2#32
  let v302 : BitVec 32 := Scalar.muli v12 c2_i32_306
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v304 : BitVec 32 := Scalar.muli v8 c1_i32_307
  let v305 : BitVec 32 := Scalar.addi v303 v304
  v305.toNat
def k0_dev13 (d0 : Dev nD) (v10 : BitVec 32) (v11 : BitVec 32) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v323 : BitVec 32 := Scalar.muli v2 c4_i32_327
  let v324 : BitVec 32 := Scalar.addi c0_i32_328 v323
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v12 : BitVec 32 := Scalar.select v9 v10 v11
  let c2_i32_329 : BitVec 32 := 2#32
  let v325 : BitVec 32 := Scalar.muli v12 c2_i32_329
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v327 : BitVec 32 := Scalar.muli v8 c1_i32_330
  let v328 : BitVec 32 := Scalar.addi v326 v327
  v328.toNat

def k0_chk1 (d0 : Dev nD) (v10 : BitVec 32) (v11 : BitVec 32) : Prop :=
  ((k0_dev1 d0 v10 v11) < nD) ∧
  ((k0_dev4 d0 v10 v11) < nD) ∧
  ((k0_dev5 d0 v10 v11) < nD) ∧
  ((k0_dev6 d0 v10 v11) < nD) ∧
  ((k0_dev7 d0 v10 v11) < nD) ∧
  ((k0_dev8 d0 v10 v11) < nD) ∧
  ((k0_dev9 d0 v10 v11) < nD) ∧
  ((k0_dev10 d0 v10 v11) < nD) ∧
  ((k0_dev11 d0 v10 v11) < nD) ∧
  ((k0_dev12 d0 v10 v11) < nD) ∧
  ((k0_dev13 d0 v10 v11) < nD)
theorem k0_dev1_lt : ∀ (d0 : Dev nD) (v10 : BitVec 32) (v11 : BitVec 32) (k0_hw1 : k0_chk1 d0 v10 v11), (k0_dev1 d0 v10 v11) < nD := fun d0 v10 v11 k0_hw1 => k0_hw1.1
theorem k0_dev4_lt : ∀ (d0 : Dev nD) (v10 : BitVec 32) (v11 : BitVec 32) (k0_hw1 : k0_chk1 d0 v10 v11), (k0_dev4 d0 v10 v11) < nD := fun d0 v10 v11 k0_hw1 => k0_hw1.2.1
theorem k0_dev5_lt : ∀ (d0 : Dev nD) (v10 : BitVec 32) (v11 : BitVec 32) (k0_hw1 : k0_chk1 d0 v10 v11), (k0_dev5 d0 v10 v11) < nD := fun d0 v10 v11 k0_hw1 => k0_hw1.2.2.1
theorem k0_dev6_lt : ∀ (d0 : Dev nD) (v10 : BitVec 32) (v11 : BitVec 32) (k0_hw1 : k0_chk1 d0 v10 v11), (k0_dev6 d0 v10 v11) < nD := fun d0 v10 v11 k0_hw1 => k0_hw1.2.2.2.1
theorem k0_dev7_lt : ∀ (d0 : Dev nD) (v10 : BitVec 32) (v11 : BitVec 32) (k0_hw1 : k0_chk1 d0 v10 v11), (k0_dev7 d0 v10 v11) < nD := fun d0 v10 v11 k0_hw1 => k0_hw1.2.2.2.2.1
theorem k0_dev8_lt : ∀ (d0 : Dev nD) (v10 : BitVec 32) (v11 : BitVec 32) (k0_hw1 : k0_chk1 d0 v10 v11), (k0_dev8 d0 v10 v11) < nD := fun d0 v10 v11 k0_hw1 => k0_hw1.2.2.2.2.2.1
theorem k0_dev9_lt : ∀ (d0 : Dev nD) (v10 : BitVec 32) (v11 : BitVec 32) (k0_hw1 : k0_chk1 d0 v10 v11), (k0_dev9 d0 v10 v11) < nD := fun d0 v10 v11 k0_hw1 => k0_hw1.2.2.2.2.2.2.1
theorem k0_dev10_lt : ∀ (d0 : Dev nD) (v10 : BitVec 32) (v11 : BitVec 32) (k0_hw1 : k0_chk1 d0 v10 v11), (k0_dev10 d0 v10 v11) < nD := fun d0 v10 v11 k0_hw1 => k0_hw1.2.2.2.2.2.2.2.1
theorem k0_dev11_lt : ∀ (d0 : Dev nD) (v10 : BitVec 32) (v11 : BitVec 32) (k0_hw1 : k0_chk1 d0 v10 v11), (k0_dev11 d0 v10 v11) < nD := fun d0 v10 v11 k0_hw1 => k0_hw1.2.2.2.2.2.2.2.2.1
theorem k0_dev12_lt : ∀ (d0 : Dev nD) (v10 : BitVec 32) (v11 : BitVec 32) (k0_hw1 : k0_chk1 d0 v10 v11), (k0_dev12 d0 v10 v11) < nD := fun d0 v10 v11 k0_hw1 => k0_hw1.2.2.2.2.2.2.2.2.2.1
theorem k0_dev13_lt : ∀ (d0 : Dev nD) (v10 : BitVec 32) (v11 : BitVec 32) (k0_hw1 : k0_chk1 d0 v10 v11), (k0_dev13 d0 v10 v11) < nD := fun d0 v10 v11 k0_hw1 => k0_hw1.2.2.2.2.2.2.2.2.2.2

def k0_dev14 (d0 : Dev nD) : Nat :=
  let c0_i32_358 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_357 : BitVec 32 := 4#32
  let v350 : BitVec 32 := Scalar.muli v24 c4_i32_357
  let v351 : BitVec 32 := Scalar.addi c0_i32_358 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v352 : BitVec 32 := Scalar.muli v5 c2_i32_359
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v354 : BitVec 32 := Scalar.muli v8 c1_i32_360
  let v355 : BitVec 32 := Scalar.addi v353 v354
  v355.toNat
def k0_dev15 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v362 : BitVec 32 := Scalar.muli v2 c4_i32_367
  let v363 : BitVec 32 := Scalar.addi c0_i32_368 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v364 : BitVec 32 := Scalar.muli v5 c2_i32_369
  let v365 : BitVec 32 := Scalar.addi v363 v364
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_370 : BitVec 32 := 1#32
  let v366 : BitVec 32 := Scalar.muli v25 c1_i32_370
  let v367 : BitVec 32 := Scalar.addi v365 v366
  v367.toNat
def k0_dev16 (d0 : Dev nD) : Nat :=
  let c0_i32_398 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_397 : BitVec 32 := 4#32
  let v389 : BitVec 32 := Scalar.muli v24 c4_i32_397
  let v390 : BitVec 32 := Scalar.addi c0_i32_398 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v391 : BitVec 32 := Scalar.muli v5 c2_i32_399
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_400 : BitVec 32 := 1#32
  let v393 : BitVec 32 := Scalar.muli v8 c1_i32_400
  let v394 : BitVec 32 := Scalar.addi v392 v393
  v394.toNat
def k0_dev17 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v401 : BitVec 32 := Scalar.muli v2 c4_i32_407
  let v402 : BitVec 32 := Scalar.addi c0_i32_408 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v403 : BitVec 32 := Scalar.muli v5 c2_i32_409
  let v404 : BitVec 32 := Scalar.addi v402 v403
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_410 : BitVec 32 := 1#32
  let v405 : BitVec 32 := Scalar.muli v25 c1_i32_410
  let v406 : BitVec 32 := Scalar.addi v404 v405
  v406.toNat
def k0_dev18 (d0 : Dev nD) : Nat :=
  let c0_i32_438 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_437 : BitVec 32 := 4#32
  let v428 : BitVec 32 := Scalar.muli v24 c4_i32_437
  let v429 : BitVec 32 := Scalar.addi c0_i32_438 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v430 : BitVec 32 := Scalar.muli v5 c2_i32_439
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_440 : BitVec 32 := 1#32
  let v432 : BitVec 32 := Scalar.muli v8 c1_i32_440
  let v433 : BitVec 32 := Scalar.addi v431 v432
  v433.toNat
def k0_dev19 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v440 : BitVec 32 := Scalar.muli v2 c4_i32_447
  let v441 : BitVec 32 := Scalar.addi c0_i32_448 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v442 : BitVec 32 := Scalar.muli v5 c2_i32_449
  let v443 : BitVec 32 := Scalar.addi v441 v442
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_450 : BitVec 32 := 1#32
  let v444 : BitVec 32 := Scalar.muli v25 c1_i32_450
  let v445 : BitVec 32 := Scalar.addi v443 v444
  v445.toNat
def k0_dev20 (d0 : Dev nD) : Nat :=
  let c0_i32_478 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_477 : BitVec 32 := 4#32
  let v467 : BitVec 32 := Scalar.muli v24 c4_i32_477
  let v468 : BitVec 32 := Scalar.addi c0_i32_478 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v469 : BitVec 32 := Scalar.muli v5 c2_i32_479
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_480 : BitVec 32 := 1#32
  let v471 : BitVec 32 := Scalar.muli v8 c1_i32_480
  let v472 : BitVec 32 := Scalar.addi v470 v471
  v472.toNat
def k0_dev21 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v479 : BitVec 32 := Scalar.muli v2 c4_i32_487
  let v480 : BitVec 32 := Scalar.addi c0_i32_488 v479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v481 : BitVec 32 := Scalar.muli v5 c2_i32_489
  let v482 : BitVec 32 := Scalar.addi v480 v481
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_490 : BitVec 32 := 1#32
  let v483 : BitVec 32 := Scalar.muli v25 c1_i32_490
  let v484 : BitVec 32 := Scalar.addi v482 v483
  v484.toNat
def k0_dev22 (d0 : Dev nD) : Nat :=
  let c0_i32_518 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_517 : BitVec 32 := 4#32
  let v506 : BitVec 32 := Scalar.muli v24 c4_i32_517
  let v507 : BitVec 32 := Scalar.addi c0_i32_518 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v508 : BitVec 32 := Scalar.muli v5 c2_i32_519
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_520 : BitVec 32 := 1#32
  let v510 : BitVec 32 := Scalar.muli v8 c1_i32_520
  let v511 : BitVec 32 := Scalar.addi v509 v510
  v511.toNat
def k0_dev23 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v518 : BitVec 32 := Scalar.muli v2 c4_i32_527
  let v519 : BitVec 32 := Scalar.addi c0_i32_528 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v520 : BitVec 32 := Scalar.muli v5 c2_i32_529
  let v521 : BitVec 32 := Scalar.addi v519 v520
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_530 : BitVec 32 := 1#32
  let v522 : BitVec 32 := Scalar.muli v25 c1_i32_530
  let v523 : BitVec 32 := Scalar.addi v521 v522
  v523.toNat
def k0_dev24 (d0 : Dev nD) : Nat :=
  let c0_i32_558 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_557 : BitVec 32 := 4#32
  let v545 : BitVec 32 := Scalar.muli v24 c4_i32_557
  let v546 : BitVec 32 := Scalar.addi c0_i32_558 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_559 : BitVec 32 := 2#32
  let v547 : BitVec 32 := Scalar.muli v5 c2_i32_559
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_560 : BitVec 32 := 1#32
  let v549 : BitVec 32 := Scalar.muli v8 c1_i32_560
  let v550 : BitVec 32 := Scalar.addi v548 v549
  v550.toNat
def k0_dev25 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_567 : BitVec 32 := 4#32
  let v557 : BitVec 32 := Scalar.muli v2 c4_i32_567
  let v558 : BitVec 32 := Scalar.addi c0_i32_568 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v559 : BitVec 32 := Scalar.muli v5 c2_i32_569
  let v560 : BitVec 32 := Scalar.addi v558 v559
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_570 : BitVec 32 := 1#32
  let v561 : BitVec 32 := Scalar.muli v25 c1_i32_570
  let v562 : BitVec 32 := Scalar.addi v560 v561
  v562.toNat
def k0_dev26 (d0 : Dev nD) : Nat :=
  let c0_i32_598 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_597 : BitVec 32 := 4#32
  let v584 : BitVec 32 := Scalar.muli v24 c4_i32_597
  let v585 : BitVec 32 := Scalar.addi c0_i32_598 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v586 : BitVec 32 := Scalar.muli v5 c2_i32_599
  let v587 : BitVec 32 := Scalar.addi v585 v586
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_600 : BitVec 32 := 1#32
  let v588 : BitVec 32 := Scalar.muli v8 c1_i32_600
  let v589 : BitVec 32 := Scalar.addi v587 v588
  v589.toNat
def k0_dev27 (d0 : Dev nD) : Nat :=
  let c0_i32_608 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_607 : BitVec 32 := 4#32
  let v596 : BitVec 32 := Scalar.muli v2 c4_i32_607
  let v597 : BitVec 32 := Scalar.addi c0_i32_608 v596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_609 : BitVec 32 := 2#32
  let v598 : BitVec 32 := Scalar.muli v5 c2_i32_609
  let v599 : BitVec 32 := Scalar.addi v597 v598
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_610 : BitVec 32 := 1#32
  let v600 : BitVec 32 := Scalar.muli v25 c1_i32_610
  let v601 : BitVec 32 := Scalar.addi v599 v600
  v601.toNat
def k0_dev28 (d0 : Dev nD) : Nat :=
  let c0_i32_629 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_628 : BitVec 32 := 4#32
  let v619 : BitVec 32 := Scalar.muli v24 c4_i32_628
  let v620 : BitVec 32 := Scalar.addi c0_i32_629 v619
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_630 : BitVec 32 := 2#32
  let v621 : BitVec 32 := Scalar.muli v5 c2_i32_630
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_631 : BitVec 32 := 1#32
  let v623 : BitVec 32 := Scalar.muli v8 c1_i32_631
  let v624 : BitVec 32 := Scalar.addi v622 v623
  v624.toNat
def k0_dev29 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v642 : BitVec 32 := Scalar.muli v2 c4_i32_649
  let v643 : BitVec 32 := Scalar.addi c0_i32_650 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v644 : BitVec 32 := Scalar.muli v5 c2_i32_651
  let v645 : BitVec 32 := Scalar.addi v643 v644
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_652 : BitVec 32 := 1#32
  let v646 : BitVec 32 := Scalar.muli v25 c1_i32_652
  let v647 : BitVec 32 := Scalar.addi v645 v646
  v647.toNat
def k0_dev30 (d0 : Dev nD) : Nat :=
  let c0_i32_671 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_670 : BitVec 32 := 4#32
  let v665 : BitVec 32 := Scalar.muli v24 c4_i32_670
  let v666 : BitVec 32 := Scalar.addi c0_i32_671 v665
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_672 : BitVec 32 := 2#32
  let v667 : BitVec 32 := Scalar.muli v5 c2_i32_672
  let v668 : BitVec 32 := Scalar.addi v666 v667
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_673 : BitVec 32 := 1#32
  let v669 : BitVec 32 := Scalar.muli v8 c1_i32_673
  let v670 : BitVec 32 := Scalar.addi v668 v669
  v670.toNat
def k0_dev31 (d0 : Dev nD) : Nat :=
  let c0_i32_692 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_691 : BitVec 32 := 4#32
  let v688 : BitVec 32 := Scalar.muli v2 c4_i32_691
  let v689 : BitVec 32 := Scalar.addi c0_i32_692 v688
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_693 : BitVec 32 := 2#32
  let v690 : BitVec 32 := Scalar.muli v5 c2_i32_693
  let v691 : BitVec 32 := Scalar.addi v689 v690
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_694 : BitVec 32 := 1#32
  let v692 : BitVec 32 := Scalar.muli v25 c1_i32_694
  let v693 : BitVec 32 := Scalar.addi v691 v692
  v693.toNat
def k0_dev32 (d0 : Dev nD) : Nat :=
  let c0_i32_713 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_712 : BitVec 32 := 4#32
  let v711 : BitVec 32 := Scalar.muli v24 c4_i32_712
  let v712 : BitVec 32 := Scalar.addi c0_i32_713 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v713 : BitVec 32 := Scalar.muli v5 c2_i32_714
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_715 : BitVec 32 := 1#32
  let v715 : BitVec 32 := Scalar.muli v8 c1_i32_715
  let v716 : BitVec 32 := Scalar.addi v714 v715
  v716.toNat
def k0_dev33 (d0 : Dev nD) : Nat :=
  let c0_i32_734 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_733 : BitVec 32 := 4#32
  let v734 : BitVec 32 := Scalar.muli v2 c4_i32_733
  let v735 : BitVec 32 := Scalar.addi c0_i32_734 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_735 : BitVec 32 := 2#32
  let v736 : BitVec 32 := Scalar.muli v5 c2_i32_735
  let v737 : BitVec 32 := Scalar.addi v735 v736
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_736 : BitVec 32 := 1#32
  let v738 : BitVec 32 := Scalar.muli v25 c1_i32_736
  let v739 : BitVec 32 := Scalar.addi v737 v738
  v739.toNat
def k0_dev34 (d0 : Dev nD) : Nat :=
  let c0_i32_755 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_10 v2
  let c4_i32_754 : BitVec 32 := 4#32
  let v757 : BitVec 32 := Scalar.muli v24 c4_i32_754
  let v758 : BitVec 32 := Scalar.addi c0_i32_755 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_756 : BitVec 32 := 2#32
  let v759 : BitVec 32 := Scalar.muli v5 c2_i32_756
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_757 : BitVec 32 := 1#32
  let v761 : BitVec 32 := Scalar.muli v8 c1_i32_757
  let v762 : BitVec 32 := Scalar.addi v760 v761
  v762.toNat
def k0_dev35 (d0 : Dev nD) : Nat :=
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_784 : BitVec 32 := 4#32
  let v784 : BitVec 32 := Scalar.muli v2 c4_i32_784
  let v785 : BitVec 32 := Scalar.addi c0_i32_785 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v786 : BitVec 32 := Scalar.muli v5 c2_i32_786
  let v787 : BitVec 32 := Scalar.addi v785 v786
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_787 : BitVec 32 := 1#32
  let v788 : BitVec 32 := Scalar.muli v25 c1_i32_787
  let v789 : BitVec 32 := Scalar.addi v787 v788
  v789.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | .hbm, ⟨14, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Topo.lean ====
/-
The mesh of the swap kernel: who sends which chunk to whom.

Each of the 8 devices moves 32 chunks of 128 rows: transfer `t` (numbered in program order) goes to the neighbour
`peer t c` along the axis `kind t` (0 = y, 1 = x, 2 = z) and carries chunk `chunk t c`. For every device the 32 chunks
received, `rch c t`, are the 32 chunks of its result, once each.
-/
module

public import proofs.«01_k».proof.Proof.Gen.KernelIdeal

@[expose] public section

set_option maxRecDepth 4096

noncomputable section

namespace Cert.Swap

open Cert.KernelIdeal Cert.KernelIdeal.Gen
open Idealize.ShloMosaic

/-- The neighbour of device `c` along y, x and z. -/
def nb (k : Fin 3) (c : Dev nD) : Dev nD :=
  (![![2, 3, 0, 1, 6, 7, 4, 5], ![4, 5, 6, 7, 0, 1, 2, 3], ![1, 0, 3, 2, 5, 4, 7, 6]] : Fin 3 → Fin 8 → Fin 8) k c

theorem nb_nb (k : Fin 3) (c : Dev nD) : nb k (nb k c) = c := by revert k c; decide

def nbE (k : Fin 3) : Dev nD ≃ Dev nD := ⟨nb k, nb k, nb_nb k, nb_nb k⟩

/-- The quarter of the rows a device sends along y. -/
def quart (c : Dev nD) : ℕ := 2 * (c.val / 4) + c.val % 2

/-- The axis a transfer goes along. -/
def kind (t : Fin 32) : Fin 3 := if t.val < 10 then 0 else if t.val % 2 = 0 then 1 else 2

abbrev peer (t : Fin 32) (c : Dev nD) : Dev nD := nb (kind t) c

theorem peer_peer (t : Fin 32) (c : Dev nD) : peer t (peer t c) = c := nb_nb _ c

/-- The chunk a transfer carries. -/
def chunk (t : Fin 32) (c : Dev nD) : Fin 32 :=
  let q := quart c
  let qx := quart (nb 1 c)
  let qz := quart (nb 2 c)
  let n := t.val
  if n < 7 then Fin.ofNat 32 (8 * q + n)
  else if n = 7 then Fin.ofNat 32 (8 * qx + 7)
  else if n = 8 then Fin.ofNat 32 (8 * qz + 7)
  else if n = 9 then Fin.ofNat 32 (8 * q + 7)
  else if n < 24 then Fin.ofNat 32 (8 * q + (n - 10) / 2)
  else if n % 2 = 0 then Fin.ofNat 32 (8 * qz + (n - 24) / 2)
  else Fin.ofNat 32 (8 * qx + 4 + (n - 24) / 2)

/-- The chunk of its own result that a device receives by transfer `t`. -/
def rch (c : Dev nD) (t : Fin 32) : Fin 32 := chunk t (peer t c)

theorem rch_inj (c : Dev nD) : Function.Injective (rch c) := by revert c; decide +kernel

theorem rch_bij (c : Dev nD) : Function.Bijective (rch c) := Finite.injective_iff_bijective.mp (rch_inj c)

def rchE (c : Dev nD) : Fin 32 ≃ Fin 32 := Equiv.ofBijective (rch c) (rch_bij c)

/-- A device sends chunk `chunk t c` into the place where its peer receives it. -/
theorem rch_peer (t : Fin 32) (c : Dev nD) : rch (peer t c) t = chunk t c := by unfold rch; rw [peer_peer]

/-- The device whose block chunk `k` of the result of `c` is cut from. -/
def org (c : Dev nD) (k : Fin 32) : Dev nD :=
  let Q := k.val / 8
  let j := k.val % 8
  if Q = quart c then nb 0 c
  else if Q = quart (nb 1 c) then (if j = 7 then nb 0 c else nb 0 (nb 1 c))
  else if Q = quart (nb 2 c) then (if j = 7 then nb 0 c else nb 0 (nb 2 c))
  else if j < 4 then nb 0 (nb 2 (nb 1 c))
  else if j < 7 then nb 0 (nb 1 (nb 2 c))
  else nb 0 (nb 2 c)

/-- Every chunk comes from a device at the other y coordinate. -/
theorem org_y (c : Dev nD) (k : Fin 32) : (org c k).val / 2 % 2 = 1 - c.val / 2 % 2 := by revert c k; decide +kernel

end Cert.Swap
-- ==== Proof.Sched.lean ====
/-
The protocol of the swap kernel: cells, payloads, schedule and levels.

A device's barrier cell has three duties, one per neighbour; the neighbour along an axis pays with the places in its own
result where the device's transfers along that axis land. Each transfer has a send cell (its payload: the source back)
and a receive cell on the peer (its payload: the chunk arrived). The two cells of the local copies run through five
rounds each (their payload: the copied chunk, staged, and the source back).
-/
module

public import proofs.«01_k».proof.Proof.Topo
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Chunks of the buffers -/

theorem oInb (k : Fin 32) : ∀ a, (![0, 128 * k.val, 0] : Fin 3 → ℕ) a + S1x128x2048.size a ≤ S1x4096x2048.size a := by
  revert k; decide
theorem sInb (j : Fin 10) : ∀ a, (![0, 128 * j.val, 0] : Fin 3 → ℕ) a + S1x128x2048.size a ≤ S1x1280x2048.size a := by
  revert j; decide
theorem gInb (b : Fin 2) : ∀ a, (![b.val, 0, 0, 0] : Fin 4 → ℕ) a + S1x1x128x2048.size a ≤ S2x1x128x2048.size a := by
  revert b; decide

/-- Chunk `k` of the result, -/
abbrev oSl (k : Fin 32) : Memref sig .tc .hbm S1x128x2048 .bf16 :=
  (Memref.whole main_v1).slice (Rect.unit (s := S1x4096x2048) ![0, 128 * k.val, 0] S1x128x2048.size (oInb k)) (fun _ => rfl)
/-- of the input, -/
abbrev xSl (k : Fin 32) : Memref sig .tc .hbm S1x128x2048 .f32 :=
  (Memref.whole main_arg0).slice (Rect.unit (s := S1x4096x2048) ![0, 128 * k.val, 0] S1x128x2048.size (oInb k)) (fun _ => rfl)
/-- part `j` of the send buffer, -/
abbrev sSl (j : Fin 10) : Memref sig .tc .vmem S1x128x2048 .bf16 :=
  (Memref.whole cc0_scratch1).slice (Rect.unit (s := S1x1280x2048) ![0, 128 * j.val, 0] S1x128x2048.size (sInb j)) (fun _ => rfl)
/-- and slot `b` of the staging buffer of the local copies. -/
abbrev gSl (b : Fin 2) : Memref sig .tc .vmem S1x128x2048 .f32 :=
  ((Memref.whole cc0_scratch0).slice (Rect.unit (s := S2x1x128x2048) ![b.val, 0, 0, 0] S1x1x128x2048.size (gInb b)) (fun _ => rfl)).squeeze
    S1x128x2048 squeezes_S1x1x128x2048_S1x128x2048

/-! ## Contents -/

/-- Device `c`'s block of the input, -/
def X (c : Dev nD) : FVec F S1x4096x2048 .f32 := m ((c : Thread nD τ).loc main_arg0)
/-- narrowed; -/
def T (c : Dev nD) : FVec F S1x4096x2048 .bf16 := truncf .bf16 (X m c) bitsLt_bf16_f32

/-- The chunk an element of the result lies in. -/
def cix (i : S1x4096x2048.Idx) : Fin 32 := Fin.ofNat 32 ((i 1).val / 128)

/-- the result of device `c`. -/
def fin (c : Dev nD) : FVec F S1x4096x2048 .bf16 := fun i => T m (org c (cix i)) i

/-- What part of the send buffer holds for chunk `k` of device `c`. -/
def nar (c : Dev nD) (k : Fin 32) : FVec F S1x128x2048 .bf16 := truncf .bf16 ((xSl k).view.read (Elt F) (X m c)) bitsLt_bf16_f32

/-! ## Assertions -/

def oP (c : Dev nD) (k : Fin 32) (q : PosShare TreeShare) (f : FVec F S1x4096x2048 .bf16) : sProp 𝕄 :=
  (oSl k).view.loc (c : Thread nD τ) ↦[(oSl k).view.set]{q} f
def xP (c : Dev nD) (k : Fin 32) : sProp 𝕄 :=
  (xSl k).view.loc (c : Thread nD τ) ↦[(xSl k).view.set]{fullShare} X m c
def sP (c : Dev nD) (j : Fin 10) (f : FVec F S1x1280x2048 .bf16) : sProp 𝕄 :=
  (sSl j).view.loc (c : Thread nD τ) ↦[(sSl j).view.set]{fullShare} f
def gP (c : Dev nD) (b : Fin 2) (f : FVec F S2x1x128x2048 .f32) : sProp 𝕄 :=
  (gSl b).view.loc (c : Thread nD τ) ↦[(gSl b).view.set]{fullShare} f

/-- The transfer whose arrival the relay `t` passes on. -/
def via (t : Fin 32) : Fin 32 :=
  let n := t.val
  if n < 10 then t
  else if n < 24 then Fin.ofNat 32 ((n - 10) / 2)
  else if n % 2 = 0 then Fin.ofNat 32 (n - 13)
  else if n = 31 then 7
  else Fin.ofNat 32 (n - 7)

/-- The share of its chunk a relay reads: along x the left half, along z the right half; the last eight transfers all of
    it. -/
def shr (t : Fin 32) : PosShare TreeShare :=
  if t.val < 24 then (if t.val % 2 = 0 then fullShare.left else fullShare.right) else fullShare

/-- The source of transfer `t`, before and after. -/
def sendPay (c : Dev nD) (t : Fin 32) : sProp 𝕄 :=
  if t.val < 10 then iprop(∃ f : FVec F S1x1280x2048 .bf16, sP c (Fin.ofNat 10 t.val) f ∗ ⌜(sSl (Fin.ofNat 10 t.val)).view.read (Elt F) f = nar m c (chunk t c)⌝)
  else oP c (chunk t c) (shr t) (fin m c)

/-- What arrives on device `c` by transfer `t`. -/
def recvPay (c : Dev nD) (t : Fin 32) : sProp 𝕄 := oP c (rch c t) fullShare (fin m c)

/-- The direct transfer a local copy prepares: copy `r` on slot `b`. -/
def cpT (b : Fin 2) (r : ℕ) : Fin 32 := Fin.ofNat 32 (2 * r + b.val)

/-- The local copy for transfer `cpT b r`, done. -/
def copyPay (c : Dev nD) (b : Fin 2) (r : ℕ) : sProp 𝕄 :=
  iprop((∃ f : FVec F S2x1x128x2048 .f32, gP c b f ∗ ⌜(gSl b).view.read (Elt F) f = (xSl (chunk (cpT b r) c)).view.read (Elt F) (X m c)⌝)
    ∗ xP m c (chunk (cpT b r) c))

/-- The place in device `d`'s result where transfer `t` from its peer lands. -/
def land (d : Dev nD) (t : Fin 32) : sProp 𝕄 := iprop(∃ f : FVec F S1x4096x2048 .bf16, oP d (rch d t) fullShare f)

/-- The transfers along an axis. -/
def along (k : Fin 3) : Finset (Fin 32) := Finset.univ.filter fun t => kind t = k

/-- What the neighbour of `c` along axis `k` pays `c`'s barrier with. -/
def barPay (c : Dev nD) (k : Fin 3) : sProp 𝕄 := bigSep (along k) fun t => land (nb k c) t

/-! ## Semaphores -/

abbrev barS : Sem sig := (SemArray.scalar (sig.barrier 0 rfl) : Sems sig S_).sem

def sendIx (t : Fin 32) : DmaSem sig :=
  let n := t.val
  (Fin.ofNat 67 (if n < 10 then 3 + n else if n < 24 then (if n % 2 = 0 then 23 + (n - 10) / 2 else 37 + (n - 10) / 2)
    else if n % 2 = 0 then 51 + (n - 24) / 2 else 59 + (n - 24) / 2) : Fin 67)
def recvIx (t : Fin 32) : DmaSem sig :=
  let n := t.val
  (Fin.ofNat 67 (if n < 10 then 13 + n else if n < 24 then (if n % 2 = 0 then 30 + (n - 10) / 2 else 44 + (n - 10) / 2)
    else if n % 2 = 0 then 55 + (n - 24) / 2 else 63 + (n - 24) / 2) : Fin 67)
def copyIx (b : Fin 2) : DmaSem sig := (Fin.ofNat 67 (1 + b.val) : Fin 67)

/-- What a DMA semaphore is for: a local copy's, a send's or a receive's, and which. -/
def dec (s : DmaSem sig) : Fin 3 × Fin 32 :=
  let v : ℕ := (show Fin 67 from s).val
  if v < 3 then (0, Fin.ofNat 32 (v - 1))
  else if v < 13 then (1, Fin.ofNat 32 (v - 3)) else if v < 23 then (2, Fin.ofNat 32 (v - 13))
  else if v < 30 then (1, Fin.ofNat 32 (10 + 2 * (v - 23))) else if v < 37 then (2, Fin.ofNat 32 (10 + 2 * (v - 30)))
  else if v < 44 then (1, Fin.ofNat 32 (11 + 2 * (v - 37))) else if v < 51 then (2, Fin.ofNat 32 (11 + 2 * (v - 44)))
  else if v < 55 then (1, Fin.ofNat 32 (24 + 2 * (v - 51))) else if v < 59 then (2, Fin.ofNat 32 (24 + 2 * (v - 55)))
  else if v < 63 then (1, Fin.ofNat 32 (25 + 2 * (v - 59))) else (2, Fin.ofNat 32 (25 + 2 * (v - 63)))

theorem dec_send (t : Fin 32) : dec (sendIx t) = (1, t) := by revert t; decide
theorem dec_recv (t : Fin 32) : dec (recvIx t) = (2, t) := by revert t; decide
theorem dec_copy (b : Fin 2) : dec (copyIx b) = (0, Fin.ofNat 32 b.val) := by revert b; decide
theorem send_ne_stg (t : Fin 32) : sendIx t ≠ (0 : Fin 67) := by revert t; decide
theorem recv_ne_stg (t : Fin 32) : recvIx t ≠ (0 : Fin 67) := by revert t; decide
theorem copy_ne_stg (b : Fin 2) : copyIx b ≠ (0 : Fin 67) := by revert b; decide

abbrev barCell (c : Dev nD) : GSem nD τ sig := ((c : Thread nD τ), .reg barS)
abbrev sendCell (c : Dev nD) (t : Fin 32) : GSem nD τ sig := ((c : Thread nD τ), .dma (sendIx t))
abbrev recvCell (c : Dev nD) (t : Fin 32) : GSem nD τ sig := ((c : Thread nD τ), .dma (recvIx t))
abbrev copyCell (c : Dev nD) (b : Fin 2) : GSem nD τ sig := ((c : Thread nD τ), .dma (copyIx b))

/-- The credit of a chunk of the result, and of a staged chunk of the input. -/
abbrev N : ℕ := (oSl 0).view.dmaCredit
abbrev NC : ℕ := (gSl 0).view.dmaCredit
theorem N_pos : 0 < N := View.dmaCredit_pos _ (by decide)
theorem NC_pos : 0 < NC := View.dmaCredit_pos _ (by decide)

/-! ## The schedule -/

def swapRd : Rounds.Schedule (GSem nD τ sig) (Fin 3) 𝕄 where
  duties g r :=
    if g.1.2 = .tc then
      match g.2 with
      | .reg s => if s = barS ∧ r = 0 then Finset.univ else ∅
      | .dma s => if s = (0 : Fin 67) then ∅ else if r < (if (dec s).1 = 0 then 5 else 1) then {0} else ∅
    else ∅
  unitless _ := False
  amount g _ _ := match g.2 with
    | .reg _ => 1
    | .dma s => if (dec s).1 = 0 then NC else N
  payload g r d := match g.2 with
    | .reg _ => barPay g.1.1 d
    | .dma s => if (dec s).1 = 0 then copyPay m g.1.1 (Fin.ofNat 2 (dec s).2.val) r
        else if (dec s).1 = 1 then sendPay m g.1.1 (dec s).2 else recvPay m g.1.1 (dec s).2
  amount_pos g r d _ := by
    rcases g with ⟨g, s | s⟩
    · exact Nat.one_pos
    · dsimp only; split
      · exact NC_pos
      · exact N_pos

omit [FloatOps F] in
instance oP_storable (c : Dev nD) (k) (q) (f) : BI.Storable (upEmb : UEmb _ 𝕄) (oP (F := F) c k q f) := by unfold oP; infer_instance
omit [FloatOps F] in
instance xP_storable (c : Dev nD) (k) : BI.Storable (upEmb : UEmb _ 𝕄) (xP (F := F) m c k) := by unfold xP; infer_instance
omit [FloatOps F] in
instance sP_storable (c : Dev nD) (j) (f) : BI.Storable (upEmb : UEmb _ 𝕄) (sP (F := F) c j f) := by unfold sP; infer_instance
omit [FloatOps F] in
instance gP_storable (c : Dev nD) (b) (f) : BI.Storable (upEmb : UEmb _ 𝕄) (gP (F := F) c b f) := by unfold gP; infer_instance
instance sendPay_storable (c : Dev nD) (t) : BI.Storable (upEmb : UEmb _ 𝕄) (sendPay m c t) := by
  unfold sendPay; split <;> infer_instance
instance recvPay_storable (c : Dev nD) (t) : BI.Storable (upEmb : UEmb _ 𝕄) (recvPay m c t) := by unfold recvPay; infer_instance
instance copyPay_storable (c : Dev nD) (b) (r) : BI.Storable (upEmb : UEmb _ 𝕄) (copyPay m c b r) := by unfold copyPay; infer_instance
omit [FloatOps F] in
instance barPay_storable (c : Dev nD) (k) : BI.Storable (upEmb : UEmb _ 𝕄) (barPay (F := F) c k) := by
  unfold barPay land; infer_instance

instance swapRd_payload_storable (g : GSem nD τ sig) (r : ℕ) (d : Fin 3) :
    BI.Storable (upEmb : UEmb _ 𝕄) ((swapRd m).payload g r d) := by
  rcases g with ⟨g, s | s⟩ <;> dsimp only [swapRd]
  · infer_instance
  · (repeat' split) <;> infer_instance

section Tables
variable (c : Dev nD) (t : Fin 32) (b : Fin 2)

theorem duties_bar : (swapRd m).duties (barCell c) 0 = Finset.univ := by
  dsimp only [swapRd]; rw [if_pos rfl, if_pos ⟨rfl, rfl⟩]
theorem duties_send : (swapRd m).duties (sendCell c t) 0 = {0} := by
  dsimp only [swapRd]; rw [if_pos rfl, if_neg (send_ne_stg t), dec_send]; rfl
theorem duties_recv : (swapRd m).duties (recvCell c t) 0 = {0} := by
  dsimp only [swapRd]; rw [if_pos rfl, if_neg (recv_ne_stg t), dec_recv]; rfl
theorem duties_copy (r : ℕ) (hr : r < 5) : (swapRd m).duties (copyCell c b) r = {0} := by
  dsimp only [swapRd]; rw [if_pos rfl, if_neg (copy_ne_stg b), dec_copy, if_pos rfl, if_pos hr]
theorem later_bar : ∀ r, 1 ≤ r → (swapRd m).duties (barCell c) r = ∅ := fun r hr => by
  dsimp only [swapRd]; rw [if_pos rfl, if_neg (fun h => by omega)]
theorem later_send : ∀ r, 1 ≤ r → (swapRd m).duties (sendCell c t) r = ∅ := fun r hr => by
  dsimp only [swapRd]; rw [if_pos rfl, if_neg (send_ne_stg t), dec_send]; exact if_neg (by simp; omega)
theorem later_recv : ∀ r, 1 ≤ r → (swapRd m).duties (recvCell c t) r = ∅ := fun r hr => by
  dsimp only [swapRd]; rw [if_pos rfl, if_neg (recv_ne_stg t), dec_recv]; exact if_neg (by simp; omega)
theorem later_copy : ∀ r, 5 ≤ r → (swapRd m).duties (copyCell c b) r = ∅ := fun r hr => by
  dsimp only [swapRd]; rw [if_pos rfl, if_neg (copy_ne_stg b), dec_copy, if_pos rfl]; exact if_neg (by omega)

theorem amount_bar (r d) : (swapRd m).amount (barCell c) r d = 1 := rfl
theorem amount_send (r d) : (swapRd m).amount (sendCell c t) r d = N := by dsimp only [swapRd]; rw [dec_send]; rfl
theorem amount_recv (r d) : (swapRd m).amount (recvCell c t) r d = N := by dsimp only [swapRd]; rw [dec_recv]; rfl
theorem amount_copy (r d) : (swapRd m).amount (copyCell c b) r d = NC := by dsimp only [swapRd]; rw [dec_copy]; exact if_pos rfl

theorem payload_bar (r d) : (swapRd m).payload (barCell c) r d = barPay c d := rfl
theorem payload_send (r d) : (swapRd m).payload (sendCell c t) r d = sendPay m c t := by dsimp only [swapRd]; rw [dec_send]; rfl
theorem payload_recv (r d) : (swapRd m).payload (recvCell c t) r d = recvPay m c t := by dsimp only [swapRd]; rw [dec_recv]; rfl
theorem payload_copy (r d) : (swapRd m).payload (copyCell c b) r d = copyPay m c b r := by
  dsimp only [swapRd]; rw [dec_copy]; rw [if_pos rfl]; congr 1; revert b; decide

theorem expect_bar : (swapRd m).expect (barCell c) 0 = 3 := by
  unfold Schedule.expect Schedule.amountOf
  rw [duties_bar, Finset.sum_congr rfl fun d _ => amount_bar m c 0 d]; rfl
theorem expect_send : (swapRd m).expect (sendCell c t) 0 = N := by
  unfold Schedule.expect Schedule.amountOf; rw [duties_send, Finset.sum_singleton, amount_send]
theorem expect_recv : (swapRd m).expect (recvCell c t) 0 = N := by
  unfold Schedule.expect Schedule.amountOf; rw [duties_recv, Finset.sum_singleton, amount_recv]
theorem expect_copy (r : ℕ) (hr : r < 5) : (swapRd m).expect (copyCell c b) r = NC := by
  unfold Schedule.expect Schedule.amountOf; rw [duties_copy m c b r hr, Finset.sum_singleton, amount_copy]

theorem rest_bar : bigSep ((swapRd m).duties (barCell c) 0 \ ∅) (fun d => (swapRd m).payload (barCell c) 0 d)
    = bigSep Finset.univ fun k => barPay c k := by
  rw [Finset.sdiff_empty, duties_bar]; rfl
theorem rest_send : bigSep ((swapRd m).duties (sendCell c t) 0 \ ∅) (fun d => (swapRd m).payload (sendCell c t) 0 d) = sendPay m c t := by
  rw [Finset.sdiff_empty, duties_send, bigSep_singleton, payload_send]
theorem rest_recv : bigSep ((swapRd m).duties (recvCell c t) 0 \ ∅) (fun d => (swapRd m).payload (recvCell c t) 0 d) = recvPay m c t := by
  rw [Finset.sdiff_empty, duties_recv, bigSep_singleton, payload_recv]
theorem rest_copy (r : ℕ) (hr : r < 5) :
    bigSep ((swapRd m).duties (copyCell c b) r \ ∅) (fun d => (swapRd m).payload (copyCell c b) r d) = copyPay m c b r := by
  rw [Finset.sdiff_empty, duties_copy m c b r hr, bigSep_singleton, payload_copy]

end Tables

/-! ## What a device owes, and the levels -/

/-- What a device still owes with `n` transfers to go: their arrivals. -/
def owe (c : Dev nD) : ℕ → CellTallies nD τ sig Unit
  | 0 => 0
  | n + 1 => owe c n + tallyAt (recvCell (peer (Fin.ofNat 32 (31 - n)) c) (Fin.ofNat 32 (31 - n))) () N

def O₂ (c : Dev nD) : CellTallies nD τ sig Unit := owe c 32 + tallyAt (barCell (nb 2 c)) () 1
def O₁ (c : Dev nD) : CellTallies nD τ sig Unit := O₂ c + tallyAt (barCell (nb 1 c)) () 1
/-- At launch: all 32 arrivals and a unit on each neighbour's barrier. -/
def O₀ (c : Dev nD) : CellTallies nD τ sig Unit := O₁ c + tallyAt (barCell (nb 0 c)) () 1

def L (g : GSem nD τ sig) : Finset Unit := if g.1.2 = .tc then {()} else ∅

/-- The level of a transfer's arrival: 2 along y, 3 for the first relays, 4 for the second. -/
def lev (t : Fin 32) : ℕ := if t.val < 10 then 2 else if t.val < 24 then 3 else 4

def lv (g : GSem nD τ sig) (_ : Unit) : ℕ := match g.2 with
  | .reg s => 1
  | .dma s => if (dec s).1 = 2 then lev (dec s).2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_recv (c : Dev nD) (t : Fin 32) (u) : lv (recvCell c t) u = lev t := by dsimp only [lv]; rw [dec_recv]; rfl
theorem lv_send (c : Dev nD) (t : Fin 32) (u) : lv (sendCell c t) u = 0 := by dsimp only [lv]; rw [dec_send]; rfl
theorem lv_copy (c : Dev nD) (b : Fin 2) (u) : lv (copyCell c b) u = 0 := by dsimp only [lv]; rw [dec_copy]; rfl
theorem lv_stg (c : Dev nD) (u) : lv ((c : Thread nD τ), .dma (0 : Fin 67)) u = 0 := rfl

theorem lev_mono (a b : Fin 32) (h : a ≤ b) : lev a ≤ lev b := by revert a b; decide
theorem one_lt_lev (t : Fin 32) : 1 < lev t := by revert t; decide

/-- What is owed with `n` transfers to go is owed to the arrivals of transfers from number `32 - n` on. -/
theorem owe_pos (c : Dev nD) (n : ℕ) (hn : n ≤ 32) {g : GSem nD τ sig} {u : Unit} (h : 0 < owe c n g u) :
    ∃ t : Fin 32, 32 - n ≤ t.val ∧ g = recvCell (peer t c) t := by
  induction n with
  | zero => exact absurd h (Nat.lt_irrefl 0)
  | succ n ih =>
    unfold owe at h
    rw [Pi.add_apply, Finsupp.add_apply, tallyAt_apply] at h
    by_cases h' : 0 < owe c n g u
    · obtain ⟨t, ht, hg⟩ := ih (by omega) h'
      exact ⟨t, by omega, hg⟩
    · split at h
      · rename_i hg
        refine ⟨Fin.ofNat 32 (31 - n), ?_, hg.1⟩
        show 32 - (n + 1) ≤ (31 - n) % 32
        omega
      · omega

omit [FloatOps F] in
/-- With `n` transfers to go, a device may wait on a cell of a level below all of them. -/
theorem mayWait_owe (c : Dev nD) (sm : SemLoc sig) (n : ℕ) (hn : n ≤ 32)
    (hl : ∀ t : Fin 32, 32 - n ≤ t.val → lv ((c : Thread nD τ), sm) () < lev t) :
    (levAts L lv : sProp 𝕄) ⊢ MayWait (c : Thread nD τ) sm () (owe c n) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := owe_pos c n hn hg; rw [L_tc]; exact Finset.mem_singleton_self _)
    (fun p hp => by rw [Finset.mem_singleton.mp hp])
    (fun g u hg => by obtain ⟨t, ht, rfl⟩ := owe_pos c n hn hg; rw [lv_recv]; exact hl t ht)

theorem O₀_pos {c : Dev nD} {g : GSem nD τ sig} {u : Unit} (h : 0 < O₀ c g u) :
    (∃ t : Fin 32, g = recvCell (peer t c) t) ∨ ∃ k, g = barCell (nb k c) := by
  unfold O₀ O₁ O₂ at h
  rw [Pi.add_apply, Finsupp.add_apply, Pi.add_apply, Finsupp.add_apply, Pi.add_apply, Finsupp.add_apply, tallyAt_apply, tallyAt_apply,
    tallyAt_apply] at h
  by_cases h' : 0 < owe c 32 g u
  · obtain ⟨t, -, hg⟩ := owe_pos c 32 le_rfl h'; exact .inl ⟨t, hg⟩
  · by_contra hn
    rw [not_or] at hn
    rw [if_neg (fun h' => hn.2 ⟨2, h'.1⟩), if_neg (fun h' => hn.2 ⟨1, h'.1⟩), if_neg (fun h' => hn.2 ⟨0, h'.1⟩)] at h
    omega

omit [FloatOps F] in
theorem mayWait_stage (c : Dev nD) (O : CellTallies nD τ sig Unit) (hO : O = O₀ c ∨ O = 0) :
    (levAts L lv : sProp 𝕄) ⊢ MayWait (c : Thread nD τ) (.dma (0 : Fin 67)) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨k, rfl⟩ <;> exact Finset.mem_singleton_self _)
      (fun p hp => by rw [Finset.mem_singleton.mp hp]; exact le_of_eq (lv_stg c ()))
      (fun g u hg => by
        rcases O₀_pos hg with ⟨t, rfl⟩ | ⟨k, rfl⟩
        · rw [lv_recv]; exact lt_trans Nat.one_pos (one_lt_lev t)
        · rw [lv_bar]; exact Nat.one_pos)
  · rw [MayWait_zero]; iintro -; iempintro

end Cert.Swap
-- ==== Proof.Steps.lean ====
/-
One step of the kernel at a time: each lemma runs one operation, from the resources it takes to those it leaves.
-/
module

public import proofs.«01_k».proof.Proof.Sched

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where contents come from -/

theorem org_direct (t : Fin 32) (c : Dev nD) (ht : t.val < 10) : org (peer t c) (chunk t c) = c := by
  revert t c; decide +kernel
theorem org_relay (t : Fin 32) (c : Dev nD) (ht : ¬ t.val < 10) : org (peer t c) (chunk t c) = org c (chunk t c) := by
  revert t c; decide +kernel
theorem chunk_via (t : Fin 32) (c : Dev nD) (ht : ¬ t.val < 10) : chunk t c = rch c (via t) := by
  revert t c; decide +kernel

theorem cix_emb (k : Fin 32) (x : S1x128x2048.Idx) : cix ((oSl k).view.emb x) = k := by
  have h : (((oSl k).view.emb x) 1).val = 128 * k.val + 1 * (x 1).val := rfl
  have hx : (x 1).val < 128 := (x 1).isLt
  unfold cix
  apply Fin.ext
  show ((((oSl k).view.emb x) 1).val / 128) % 32 = k.val
  rw [h]
  omega

/-- What device `c`'s chunk `k` becomes at its destination is the result there. -/
theorem fin_direct (t : Fin 32) (c : Dev nD) (ht : t.val < 10) (x : S1x128x2048.Idx) :
    fin m (peer t c) ((oSl (chunk t c)).view.emb x) = nar m c (chunk t c) x := by
  unfold fin
  rw [cix_emb, org_direct t c ht]
  rfl

theorem fin_relay (t : Fin 32) (c : Dev nD) (ht : ¬ t.val < 10) (x : S1x128x2048.Idx) :
    fin m (peer t c) ((oSl (chunk t c)).view.emb x) = fin m c ((oSl (chunk t c)).view.emb x) := by
  unfold fin
  rw [cix_emb, org_relay t c ht]

omit [FloatOps F] in
/-- A chunk rewritten with what `g` holds there. -/
theorem oP_write (c : Dev nD) (k : Fin 32) (fd g : FVec F S1x4096x2048 .bf16) (w : FVec F S1x128x2048 .bf16)
    (h : ∀ x, g ((oSl k).view.emb x) = w x) :
    ((oSl k).view.loc (c : Thread nD τ) ↦[(oSl k).view.set]{fullShare} ((oSl k).view.write (Elt F) fd w Finset.univ) : sProp 𝕄)
      = oP c k fullShare g := by
  unfold oP
  refine pointsTo_congr fun i hi => ?_
  obtain ⟨x, -, rfl⟩ := Finset.mem_map.mp hi
  rw [View.write_emb_of_mem _ _ (Finset.mem_univ x), h x]
  rfl

/-! ## The resources -/

def csem (k : Fin 67) : SemLoc sig := if k = 0 then .reg barS else .dma k
abbrev kcell (ck : Dev nD × Fin 67) : GSem nD τ sig := ((ck.1 : Thread nD τ), csem ck.2)

theorem kcell_bar (c : Dev nD) : kcell (c, 0) = barCell c := rfl
theorem kcell_send (c : Dev nD) (t : Fin 32) : kcell (c, sendIx t) = sendCell c t := by
  unfold kcell csem; rw [if_neg (send_ne_stg t)]
theorem kcell_recv (c : Dev nD) (t : Fin 32) : kcell (c, recvIx t) = recvCell c t := by
  unfold kcell csem; rw [if_neg (recv_ne_stg t)]
theorem kcell_copy (c : Dev nD) (b : Fin 2) : kcell (c, copyIx b) = copyCell c b := by
  unfold kcell csem; rw [if_neg (copy_ne_stg b)]

/-- What every device knows throughout: the levels, the cells' invariants, and that each is at round 0 at least. -/
def Inv (K : Dev nD × Fin 67 → ℕ) : sProp 𝕄 :=
  iprop(levAts L lv ∗ (bigSep Finset.univ fun ck => cellInv ER (swapRd m) (K ck) (kcell ck))
    ∗ bigSep Finset.univ fun ck : Dev nD × Fin 67 => reached ER (kcell ck) 0)

instance Inv_persistent (K : Dev nD × Fin 67 → ℕ) : BI.Persistent (Inv m K) := by unfold Inv; infer_instance

variable (K : Dev nD × Fin 67 → ℕ)

theorem inv_lev : Inv m K ⊢ levAts L lv := by
  unfold Inv; iintro ⟨#H, -, -⟩; iexact H
omit [FloatOps F] in
theorem bs_elim {I : Type} [DecidableEq I] {s : Finset I} {i : I} (h : i ∈ s) (Φ : I → sProp 𝕄) : bigSep s Φ ⊢ Φ i := bigSep_elim h
omit [FloatOps F] in
theorem bs_insert {I : Type} [DecidableEq I] {s : Finset I} {i : I} (h : i ∉ s) (Φ : I → sProp 𝕄) :
    bigSep (insert i s) Φ = iprop(Φ i ∗ bigSep s Φ) := BI.bigSep_insert h
theorem inv_at (ck : Dev nD × Fin 67) : Inv m K ⊢ cellInv ER (swapRd m) (K ck) (kcell ck) := by
  unfold Inv; iintro ⟨-, #H, -⟩
  iapply (bs_elim (Finset.mem_univ ck) fun ck => cellInv ER (swapRd m) (K ck) (kcell ck)); iexact H
theorem inv_reached (ck : Dev nD × Fin 67) : Inv m K ⊢ reached ER (kcell ck) 0 := by
  unfold Inv; iintro ⟨-, -, #H⟩
  iapply (bs_elim (Finset.mem_univ ck) fun ck : Dev nD × Fin 67 => (reached ER (kcell ck) 0 : sProp 𝕄)); iexact H

/-- What device `c` owes with `n` transfers to go. -/
def OW (c : Dev nD) (n : ℕ) : sProp 𝕄 := iprop(∃ W, owes (c : Thread nD τ) (owe c n) W)

/-- Transfer `t` not yet sent: the position at its send cell and the tokens of both its duties; -/
def Tx (c : Dev nD) (t : Fin 32) : sProp 𝕄 :=
  iprop(atPos ER (sendCell c t) 0 ∅ 0 ∗ dutyTok ER (sendCell c t) 0 (0 : Fin 3) ∗ dutyTok ER (recvCell (peer t c) t) 0 (0 : Fin 3))
/-- with the place it goes to; -/
def Tr (c : Dev nD) (t : Fin 32) : sProp 𝕄 := iprop(Tx c t ∗ land (peer t c) t)
/-- sent: the position, and the credit to wait with. -/
def Sd (c : Dev nD) (t : Fin 32) : sProp 𝕄 :=
  iprop(atPos ER (sendCell c t) 0 ∅ 0 ∗ cred (tallyAt (sendCell c t) () N))
/-- Transfer `t` to arrive: the position at its receive cell, and the credit to wait with. -/
def Rx (c : Dev nD) (t : Fin 32) : sProp 𝕄 :=
  iprop(atPos ER (recvCell c t) 0 ∅ 0 ∗ cred (tallyAt (recvCell c t) () N))
/-- The counters after the waits. -/
def Zs (c : Dev nD) (t : Fin 32) : sProp 𝕄 := semVal (sendCell c t) 0
def Zr (c : Dev nD) (t : Fin 32) : sProp 𝕄 := semVal (recvCell c t) 0

/-- The cell of slot `b` after `r` copies; -/
def Cp (c : Dev nD) (b : Fin 2) (r : ℕ) : sProp 𝕄 :=
  iprop(atPos ER (copyCell c b) r ∅ 0 ∗ reached ER (copyCell c b) r ∗ bigSep (Finset.Ico r 5) fun r => dutyTok ER (copyCell c b) r (0 : Fin 3))
/-- copy `r` in flight. -/
def Cf (c : Dev nD) (b : Fin 2) (r : ℕ) : sProp 𝕄 :=
  iprop(atPos ER (copyCell c b) r ∅ 0 ∗ cred (tallyAt (copyCell c b) () NC)
    ∗ bigSep (Finset.Ico (r + 1) 5) fun r => dutyTok ER (copyCell c b) r (0 : Fin 3))

/-- Slot `b` free; holding the chunk of transfer `t`. -/
def Gf (c : Dev nD) (b : Fin 2) : sProp 𝕄 := iprop(∃ f : FVec F S2x1x128x2048 .f32, gP c b f)
def Gh (c : Dev nD) (b : Fin 2) (t : Fin 32) : sProp 𝕄 :=
  iprop(∃ f : FVec F S2x1x128x2048 .f32, gP c b f ∗ ⌜(gSl b).view.read (Elt F) f = (xSl (chunk t c)).view.read (Elt F) (X m c)⌝)
/-- Part `j` of the send buffer at any contents. -/
def Sf (c : Dev nD) (j : Fin 10) : sProp 𝕄 := iprop(∃ f : FVec F S1x1280x2048 .bf16, sP c j f)

theorem Gh_free (c : Dev nD) (b : Fin 2) (t : Fin 32) : Gh m c b t ⊢ Gf (F := F) c b := by
  unfold Gh Gf; iintro ⟨%f, H, -⟩; iexists f; iexact H

abbrev 𝒱₀ : Variants := Variants.none

/-! ## Transfers -/

section Steps
variable (c : Dev nD)

omit [FloatOps F] in
theorem OW_succ (t : Fin 32) (n : ℕ) (hn : t.val + n = 31) :
    owe c (n + 1) = owe c n + tallyAt (recvCell (peer t c) t) () N := by
  have h : (Fin.ofNat 32 (31 - n) : Fin 32) = t := Fin.ext (by show (31 - n) % 32 = t.val; omega)
  show owe c n + _ = _
  rw [h]

/-- A transfer along y: a part of the send buffer goes to its place at the peer. -/
theorem step_direct (t : Fin 32) (ht : t.val < 10) (n : ℕ) (hn : t.val + n = 31)
    {α : Type} {Qα : α → sProp 𝕄} {k : PUnit → Prog (TpuEff nD τ sig (Elt F) Λ₀ .tc) α}
    {so o : Fin 3 → ℕ} (hso : so = ![0, 128 * (Fin.ofNat 10 t.val : Fin 10).val, 0]) (ho : o = ![0, 128 * (chunk t c).val, 0])
    {d : Dev nD} (hd : d = peer t c) {s1 s2 : DmaSem sig} (h1 : s1 = sendIx t) (h2 : s2 = recvIx t)
    {i1 : ∀ a, so a + S1x128x2048.size a ≤ S1x1280x2048.size a} {i2 : ∀ a, o a + S1x128x2048.size a ≤ S1x4096x2048.size a}
    {e1 e2 hsc w1 w2 hty} :
    iprop(Inv m K ∗ OW c (n + 1) ∗ Tr c t ∗ sendPay m c t)
      ⊢ iprop(((OW c n ∗ Sd c t) -∗ wp frame (wpE (defs₀ (F := F)) 𝒱₀ (c : Thread nD τ) none) Set.univ (k ⟨⟩) Qα)
        -∗ wp frame (wpE (defs₀ (F := F)) 𝒱₀ (c : Thread nD τ) none) Set.univ
          (.op (.enqueueDma ((Memref.whole cc0_scratch1).slice (Rect.unit (s := S1x1280x2048) so S1x128x2048.size i1) e1)
            (.remote (Dev.tc d) ((Memref.whole main_v1).slice (Rect.unit (s := S1x4096x2048) o S1x128x2048.size i2) e2) (.dma s1) hsc)
            (.dma s2) w1 w2 hty) k) Qα) := by
  subst hso ho hd h1 h2
  unfold OW Tr Tx land sendPay Sd
  rw [if_pos ht, rch_peer, OW_succ c t n hn]
  iintro ⟨#HI, ⟨%W, HO⟩, ⟨⟨Hat, Ht1, Ht2⟩, ⟨%fd, Hd⟩⟩, ⟨%fs, Hs, %hfs⟩⟩ Hk
  ihave #I1 := (inv_at m K (c, sendIx t)) $$ HI
  ihave #I2 := (inv_at m K (peer t c, recvIx t)) $$ HI
  ihave #R1 := (inv_reached m K (c, sendIx t)) $$ HI
  ihave #R2 := (inv_reached m K (peer t c, recvIx t)) $$ HI
  rw [kcell_send, kcell_recv]
  have hN : ∀ k (s : DmaSem sig), (oSl k).view.amount (.dma s) = N := fun _ _ => rfl
  have hr : τ.routes (c : Thread nD τ) (Dev.tc (peer t c)) = true := by routes
  have hp1 : (((sSl (Fin.ofNat 10 t.val)).view.loc (c : Thread nD τ)) ↦[(sSl (Fin.ofNat 10 t.val)).view.set]{fullShare} fs : sProp 𝕄)
      ⊢ (swapRd m).payload (sendCell c t) 0 0 := by
    rw [payload_send]; unfold sendPay; rw [if_pos ht]; unfold sP
    iintro H; iexists fs; isplitl [H]; · iexact H
    ipureintro; exact hfs
  have hp2 : (((oSl (chunk t c)).view.loc (Dev.tc (peer t c))) ↦[(oSl (chunk t c)).view.set]{fullShare}
        ((oSl (chunk t c)).view.write (Elt F) fd ((sSl (Fin.ofNat 10 t.val)).view.read (Elt F) fs) Finset.univ) : sProp 𝕄)
      ⊢ (swapRd m).payload (recvCell (peer t c) t) 0 0 := by
    rw [payload_recv]; unfold recvPay; rw [rch_peer, hfs]
    exact Entails.of_eq (oP_write (peer t c) (chunk t c) fd (fin m (peer t c)) (nar m c (chunk t c)) (fin_direct m t c ht))
  unfold oP sP
  iapply (Rounds.wp_send_pointsTo 𝒱₀ ER (swapRd m) (c : Thread nD τ) none (c' := Dev.tc (peer t c)) (src := sSl (Fin.ofNat 10 t.val))
      (dst := oSl (chunk t c)) (sS := .dma (sendIx t)) (sem := .dma (recvIx t))
      (κ₁ := K (c, sendIx t)) (κ₂ := K (peer t c, recvIx t))
      (r₁ := 0) (r₂ := 0) (d₁ := 0) (d₂ := 0) (fd := fd) (fs := fs) (q := fullShare) (by rw [duties_send]; exact Finset.mem_singleton_self _)
      (by rw [duties_recv]; exact Finset.mem_singleton_self _) () () N (hN _ _) (amount_send m c t 0 0) (amount_recv m (peer t c) t 0 0)
      (owe c n) rfl (W := W) hp1 hp2 (hr := hr))
    $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [HO]; · iexists W; iexact HO
  isplitl [Hat] <;> iassumption

/-- A relay: a chunk of the result goes on to its place at the peer. -/
theorem step_relay (t : Fin 32) (ht : ¬ t.val < 10) (n : ℕ) (hn : t.val + n = 31)
    {α : Type} {Qα : α → sProp 𝕄} {k : PUnit → Prog (TpuEff nD τ sig (Elt F) Λ₀ .tc) α}
    {o : Fin 3 → ℕ} (ho : o = ![0, 128 * (chunk t c).val, 0])
    {d : Dev nD} (hd : d = peer t c) {s1 s2 : DmaSem sig} (h1 : s1 = sendIx t) (h2 : s2 = recvIx t)
    {i1 i2 : ∀ a, o a + S1x128x2048.size a ≤ S1x4096x2048.size a} {e1 e2 hsc w1 w2 hty} :
    iprop(Inv m K ∗ OW c (n + 1) ∗ Tr c t ∗ sendPay m c t)
      ⊢ iprop(((OW c n ∗ Sd c t) -∗ wp frame (wpE (defs₀ (F := F)) 𝒱₀ (c : Thread nD τ) none) Set.univ (k ⟨⟩) Qα)
        -∗ wp frame (wpE (defs₀ (F := F)) 𝒱₀ (c : Thread nD τ) none) Set.univ
          (.op (.enqueueDma ((Memref.whole main_v1).slice (Rect.unit (s := S1x4096x2048) o S1x128x2048.size i1) e1)
            (.remote (Dev.tc d) ((Memref.whole main_v1).slice (Rect.unit (s := S1x4096x2048) o S1x128x2048.size i2) e2) (.dma s1) hsc)
            (.dma s2) w1 w2 hty) k) Qα) := by
  subst ho hd h1 h2
  unfold OW Tr Tx land sendPay Sd
  rw [if_neg ht, rch_peer, OW_succ c t n hn]
  iintro ⟨#HI, ⟨%W, HO⟩, ⟨⟨Hat, Ht1, Ht2⟩, ⟨%fd, Hd⟩⟩, Hs⟩ Hk
  ihave #I1 := (inv_at m K (c, sendIx t)) $$ HI
  ihave #I2 := (inv_at m K (peer t c, recvIx t)) $$ HI
  ihave #R1 := (inv_reached m K (c, sendIx t)) $$ HI
  ihave #R2 := (inv_reached m K (peer t c, recvIx t)) $$ HI
  rw [kcell_send, kcell_recv]
  have hN : ∀ k (s : DmaSem sig), (oSl k).view.amount (.dma s) = N := fun _ _ => rfl
  have hr : τ.routes (c : Thread nD τ) (Dev.tc (peer t c)) = true := by routes
  have hp1 : (((oSl (chunk t c)).view.loc (c : Thread nD τ)) ↦[(oSl (chunk t c)).view.set]{shr t} fin m c : sProp 𝕄)
      ⊢ (swapRd m).payload (sendCell c t) 0 0 := by
    rw [payload_send]; unfold sendPay; rw [if_neg ht]; exact .rfl
  have hp2 : (((oSl (chunk t c)).view.loc (Dev.tc (peer t c))) ↦[(oSl (chunk t c)).view.set]{fullShare}
        ((oSl (chunk t c)).view.write (Elt F) fd ((oSl (chunk t c)).view.read (Elt F) (fin m c)) Finset.univ) : sProp 𝕄)
      ⊢ (swapRd m).payload (recvCell (peer t c) t) 0 0 := by
    rw [payload_recv]; unfold recvPay; rw [rch_peer]
    exact Entails.of_eq (oP_write (peer t c) (chunk t c) fd (fin m (peer t c)) _ (fin_relay m t c ht))
  unfold oP
  iapply (Rounds.wp_send_pointsTo 𝒱₀ ER (swapRd m) (c : Thread nD τ) none (c' := Dev.tc (peer t c)) (src := oSl (chunk t c))
      (dst := oSl (chunk t c)) (sS := .dma (sendIx t)) (sem := .dma (recvIx t))
      (κ₁ := K (c, sendIx t)) (κ₂ := K (peer t c, recvIx t))
      (r₁ := 0) (r₂ := 0) (d₁ := 0) (d₂ := 0) (fd := fd) (fs := fin m c) (q := shr t) (by rw [duties_send]; exact Finset.mem_singleton_self _)
      (by rw [duties_recv]; exact Finset.mem_singleton_self _) () () N (hN _ _) (amount_send m c t 0 0) (amount_recv m (peer t c) t 0 0)
      (owe c n) rfl (W := W) hp1 hp2 (hr := hr))
    $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [HO]; · iexists W; iexact HO
  isplitl [Hat] <;> iassumption

/-- A wait for a send: the source is back, and the cell is closed. -/
theorem step_sent (t : Fin 32) (n : ℕ) (hn : n ≤ 32)
    {α : Type} {Qα : α → sProp 𝕄} {k : PUnit → Prog (TpuEff nD τ sig (Elt F) Λ₀ .tc) α}
    {s1 : DmaSem sig} (h1 : s1 = sendIx t) {sp sp' : Space} {s : Shape} {e : EltTy} {src : Memref sig .tc sp s e} {dst : Memref sig .tc sp' s e}
    (hN : dst.view.dmaCredit = N) {w1 w2} :
    iprop(Inv m K ∗ OW c n ∗ Sd c t)
      ⊢ iprop(((OW c n ∗ Zs c t ∗ sendPay m c t) -∗ wp frame (wpE (defs₀ (F := F)) 𝒱₀ (c : Thread nD τ) none) Set.univ (k ⟨⟩) Qα)
        -∗ wp frame (wpE (defs₀ (F := F)) 𝒱₀ (c : Thread nD τ) none) Set.univ (.op (.waitDma2 s1 src dst w1 w2) k) Qα) := by
  subst h1
  unfold OW Sd Zs
  iintro ⟨#HI, ⟨%W, HO⟩, ⟨Hat, Hc⟩⟩ Hk
  ihave #I1 := (inv_at m K (c, sendIx t)) $$ HI
  ihave #Hl := (inv_lev m K) $$ HI
  rw [kcell_send]
  rw [← hN]
  iapply (Rounds.wp_wait_rest_token 𝒱₀ ER (swapRd m) (c : Thread nD τ) none (κ := K (c, sendIx t))
      (wpE_waitDma2_eq 𝒱₀ (c : Thread nD τ) none Set.univ) (Set.mem_univ _) () (O := owe c n) (W := W) (R := 0) (m := 0) (T := ∅)
      (by rw [Nat.zero_add, expect_send]; exact hN)) $$ [Hc HO Hat]
  · isplitr; · iexact I1
    isplitl [Hc]; · iexact Hc
    isplitl [HO]; · iexact HO
    isplitr
    · iapply (mayWait_owe c (.dma (sendIx t)) n hn (fun u hu => by rw [lv_send]; exact lt_trans Nat.one_pos (one_lt_lev u))); iexact Hl
    iexact Hat
  iintro ⟨HO, Hat, -, Hp⟩
  ihave Hp := (Entails.of_eq (rest_send m c t)) $$ Hp
  imod (Rounds.cell_close ER (swapRd m) (Set.mem_univ (K (c, sendIx t))) (fun h => h) (R := 0 + 1) (later_send m c t)) $$ [Hat] with Hz
  · isplitr; · iexact I1
    iexact Hat
  iapply Hk
  isplitl [HO]; · iexists _; iexact HO
  isplitl [Hz] <;> iassumption

/-- A wait for an arrival: the chunk is there, and the cell is closed. -/
theorem step_arrived (t : Fin 32) (n : ℕ) (hn : n ≤ 32) (hlev : ∀ u : Fin 32, 32 - n ≤ u.val → lev t < lev u)
    {α : Type} {Qα : α → sProp 𝕄} {k : PUnit → Prog (TpuEff nD τ sig (Elt F) Λ₀ .tc) α}
    {s1 : DmaSem sig} (h1 : s1 = recvIx t) {sp sp' : Space} {s : Shape} {e : EltTy} {src : Memref sig .tc sp s e} {dst : Memref sig .tc sp' s e}
    (hN : dst.view.dmaCredit = N) {w1 w2} :
    iprop(Inv m K ∗ OW c n ∗ Rx c t)
      ⊢ iprop(((OW c n ∗ Zr c t ∗ recvPay m c t) -∗ wp frame (wpE (defs₀ (F := F)) 𝒱₀ (c : Thread nD τ) none) Set.univ (k ⟨⟩) Qα)
        -∗ wp frame (wpE (defs₀ (F := F)) 𝒱₀ (c : Thread nD τ) none) Set.univ (.op (.waitDma2 s1 src dst w1 w2) k) Qα) := by
  subst h1
  unfold OW Rx Zr
  iintro ⟨#HI, ⟨%W, HO⟩, ⟨Hat, Hc⟩⟩ Hk
  ihave #I1 := (inv_at m K (c, recvIx t)) $$ HI
  ihave #Hl := (inv_lev m K) $$ HI
  rw [kcell_recv]
  rw [← hN]
  iapply (Rounds.wp_wait_rest_token 𝒱₀ ER (swapRd m) (c : Thread nD τ) none (κ := K (c, recvIx t))
      (wpE_waitDma2_eq 𝒱₀ (c : Thread nD τ) none Set.univ) (Set.mem_univ _) () (O := owe c n) (W := W) (R := 0) (m := 0) (T := ∅)
      (by rw [Nat.zero_add, expect_recv]; exact hN)) $$ [Hc HO Hat]
  · isplitr; · iexact I1
    isplitl [Hc]; · iexact Hc
    isplitl [HO]; · iexact HO
    isplitr
    · iapply (mayWait_owe c (.dma (recvIx t)) n hn (fun u hu => by rw [lv_recv]; exact hlev u hu)); iexact Hl
    iexact Hat
  iintro ⟨HO, Hat, -, Hp⟩
  ihave Hp := (Entails.of_eq (rest_recv m c t)) $$ Hp
  imod (Rounds.cell_close ER (swapRd m) (Set.mem_univ (K (c, recvIx t))) (fun h => h) (R := 0 + 1) (later_recv m c t)) $$ [Hat] with Hz
  · isplitr; · iexact I1
    iexact Hat
  iapply Hk
  isplitl [HO]; · iexists _; iexact HO
  isplitl [Hz] <;> iassumption

/-! ## Local copies -/

/-- A local copy starts: chunk to slot. -/
theorem step_copy (b : Fin 2) (r : ℕ) (hr : r < 5)
    {α : Type} {Qα : α → sProp 𝕄} {k : PUnit → Prog (TpuEff nD τ sig (Elt F) Λ₀ .tc) α}
    {g : Fin 4 → ℕ} {o : Fin 3 → ℕ} (hg : g = ![b.val, 0, 0, 0]) (ho : o = ![0, 128 * (chunk (cpT b r) c).val, 0])
    {s1 : DmaSem sig} (h1 : s1 = copyIx b)
    {i1 : ∀ a, o a + S1x128x2048.size a ≤ S1x4096x2048.size a} {i2 : ∀ a, g a + S1x1x128x2048.size a ≤ S2x1x128x2048.size a}
    {e1 e2 hsq w1 w2 hty} :
    iprop(Inv m K ∗ Cp c b r ∗ Gf c b ∗ xP m c (chunk (cpT b r) c))
      ⊢ iprop((Cf c b r -∗ wp frame (wpE (defs₀ (F := F)) 𝒱₀ (c : Thread nD τ) none) Set.univ (k ⟨⟩) Qα)
        -∗ wp frame (wpE (defs₀ (F := F)) 𝒱₀ (c : Thread nD τ) none) Set.univ
          (.op (.enqueueDma ((Memref.whole main_arg0).slice (Rect.unit (s := S1x4096x2048) o S1x128x2048.size i1) e1)
            (.here (((Memref.whole cc0_scratch0).slice (Rect.unit (s := S2x1x128x2048) g S1x1x128x2048.size i2) e2).squeeze S1x128x2048 hsq))
            (.dma s1) w1 w2 hty) k) Qα) := by
  subst hg ho h1
  unfold Cp Cf Gf
  rw [show Finset.Ico r 5 = insert r (Finset.Ico (r + 1) 5) from by ext i; simp; omega, bs_insert (by simp)]
  iintro ⟨#HI, ⟨Hat, #Hr, ⟨Ht, Hts⟩⟩, ⟨%fd, Hd⟩, Hs⟩ Hk
  ihave #I1 := (inv_at m K (c, copyIx b)) $$ HI
  rw [kcell_copy]
  have hN : (gSl b).view.amount (.dma (copyIx b)) = NC := rfl
  have hp : iprop((((gSl b).view.loc (c : Thread nD τ)) ↦[(gSl b).view.set]{fullShare}
        ((gSl b).view.write (Elt F) fd ((xSl (chunk (cpT b r) c)).view.read (Elt F) (X m c)) Finset.univ))
        ∗ (((xSl (chunk (cpT b r) c)).view.loc (c : Thread nD τ)) ↦[(xSl (chunk (cpT b r) c)).view.set]{fullShare} X m c))
      ⊢ (swapRd m).payload (copyCell c b) r 0 := by
    rw [payload_copy]; unfold copyPay gP xP
    iintro ⟨H1, H2⟩
    isplitl [H1]
    · iexists _; isplitl [H1]; · iexact H1
      ipureintro; exact View.read_write_univ _ _
    · iexact H2
  unfold gP xP
  iapply (Rounds.wp_copy_pointsTo 𝒱₀ ER (swapRd m) (c : Thread nD τ) none (src := xSl (chunk (cpT b r) c)) (dst := gSl b)
      (sem := .dma (copyIx b)) (κ := K (c, copyIx b)) (r := r) (d := 0) (fd := fd) (fs := X m c) (q := fullShare)
      (by rw [duties_copy m c b r hr]; exact Finset.mem_singleton_self _) () NC hN (amount_copy m c b r 0) hp) $$ [Hs Hd Ht]
  · isplitr; · iexact I1
    isplitl [Hs]; · iexact Hs
    isplitl [Hd]; · iexact Hd
    isplitl [Ht]; · iexact Ht
    iexact Hr
  iintro Hc
  iapply Hk
  isplitl [Hat]; · iexact Hat
  isplitl [Hc] <;> iassumption

/-- The wait for a local copy. -/
theorem step_copied (b : Fin 2) (r : ℕ) (hr : r < 5) (n : ℕ) (hn : n ≤ 32)
    {α : Type} {Qα : α → sProp 𝕄} {k : PUnit → Prog (TpuEff nD τ sig (Elt F) Λ₀ .tc) α}
    {s1 : DmaSem sig} (h1 : s1 = copyIx b) {sp sp' : Space} {s : Shape} {e : EltTy} {src : Memref sig .tc sp s e} {dst : Memref sig .tc sp' s e}
    (hN : dst.view.dmaCredit = NC) {w1 w2} :
    iprop(Inv m K ∗ OW c n ∗ Cf c b r)
      ⊢ iprop(((OW c n ∗ Cp c b (r + 1) ∗ Gh m c b (cpT b r) ∗ xP m c (chunk (cpT b r) c))
          -∗ wp frame (wpE (defs₀ (F := F)) 𝒱₀ (c : Thread nD τ) none) Set.univ (k ⟨⟩) Qα)
        -∗ wp frame (wpE (defs₀ (F := F)) 𝒱₀ (c : Thread nD τ) none) Set.univ (.op (.waitDma2 s1 src dst w1 w2) k) Qα) := by
  subst h1
  unfold OW Cf Cp
  iintro ⟨#HI, ⟨%W, HO⟩, ⟨Hat, Hc, Hts⟩⟩ Hk
  ihave #I1 := (inv_at m K (c, copyIx b)) $$ HI
  ihave #Hl := (inv_lev m K) $$ HI
  rw [kcell_copy]
  rw [← hN]
  iapply (Rounds.wp_wait_rest_token 𝒱₀ ER (swapRd m) (c : Thread nD τ) none (κ := K (c, copyIx b))
      (wpE_waitDma2_eq 𝒱₀ (c : Thread nD τ) none Set.univ) (Set.mem_univ _) () (O := owe c n) (W := W) (R := r) (m := 0) (T := ∅)
      (by rw [Nat.zero_add, expect_copy m c b r hr]; exact hN)) $$ [Hc HO Hat]
  · isplitr; · iexact I1
    isplitl [Hc]; · iexact Hc
    isplitl [HO]; · iexact HO
    isplitr
    · iapply (mayWait_owe c (.dma (copyIx b)) n hn (fun u hu => by rw [lv_copy]; exact lt_trans Nat.one_pos (one_lt_lev u))); iexact Hl
    iexact Hat
  iintro ⟨HO, Hat, Hr, Hp⟩
  ihave Hp := (Entails.of_eq (rest_copy m c b r hr)) $$ Hp
  unfold copyPay
  icases Hp with ⟨Hg, Hx⟩
  iapply Hk
  isplitl [HO]; · iexists _; iexact HO
  isplitl [Hat Hr Hts]
  · isplitl [Hat]; · iexact Hat
    isplitl [Hr] <;> iassumption
  isplitl [Hg]
  · unfold Gh; iexact Hg
  iexact Hx

/-- After the five copies a slot's cell closes. -/
theorem close_copy (b : Fin 2) : iprop(Inv m K ∗ Cp c b 5) ⊢ |={Set.univ}[frame]=> (semVal (copyCell c b) 0 : sProp 𝕄) := by
  unfold Cp
  iintro ⟨#HI, ⟨Hat, -, -⟩⟩
  ihave #I1 := (inv_at m K (c, copyIx b)) $$ HI
  rw [kcell_copy]
  imod (Rounds.cell_close ER (swapRd m) (Set.mem_univ (K (c, copyIx b))) (fun h => h) (R := 5) (later_copy m c b)) $$ [Hat] with Hz
  · isplitr; · iexact I1
    iexact Hat
  imodintro; iexact Hz

/-! ## Loads and stores -/

/-- The load of a staged chunk. -/
theorem step_load (b : Fin 2) (t : Fin 32)
    {α : Type} {Qα : α → sProp 𝕄} {k : Vec F S1x1x128x2048 .f32 → Prog (TpuEff nD τ sig (Elt F) Λ₀ .tc) α}
    {g : Fin 4 → ℕ} (hg : g = ![b.val, 0, 0, 0]) {i1 : ∀ a, g a + S1x1x128x2048.size a ≤ S2x1x128x2048.size a} {hl} :
    Gh m c b t
      ⊢ iprop((∀ v : FVec F S1x1x128x2048 .f32, (⌜shapeCast S1x128x2048 v shapeCasts_S1x1x128x2048_S1x128x2048 = (xSl (chunk t c)).view.read (Elt F) (X m c)⌝ ∗ Gh m c b t)
          -∗ wp frame (wpE (defs₀ (F := F)) 𝒱₀ (c : Thread nD τ) none) Set.univ (k v) Qα)
        -∗ wp frame (wpE (defs₀ (F := F)) 𝒱₀ (c : Thread nD τ) none) Set.univ
          (.op (.load (Memref.whole cc0_scratch0) (Rect.unit (s := S2x1x128x2048) g S1x1x128x2048.size i1).toLoadRect hl) k) Qα) := by
  subst hg
  unfold Gh gP
  iintro ⟨%f, Hg, %hf⟩ Hk
  iapply (wp_load_rect 𝒱₀ (c : Thread nD τ) none Set.univ (m := Memref.whole cc0_scratch0)
    (by rw [View.set_reshape])) $$ Hg
  iintro Hg
  iapply Hk
  isplitr
  · ipureintro; exact hf
  · iexists f; isplitl [Hg]; · iexact Hg
    ipureintro; exact hf

/-- The load of a part of the send buffer, whose value is not used. -/
theorem step_dead (j : Fin 10)
    {α : Type} {Qα : α → sProp 𝕄} {k : Vec F S1x128x2048 .bf16 → Prog (TpuEff nD τ sig (Elt F) Λ₀ .tc) α}
    {so : Fin 3 → ℕ} (hso : so = ![0, 128 * j.val, 0]) {i1 : ∀ a, so a + S1x128x2048.size a ≤ S1x1280x2048.size a} {hl} :
    Sf (F := F) c j
      ⊢ iprop((∀ v : FVec F S1x128x2048 .bf16, Sf (F := F) c j -∗ wp frame (wpE (defs₀ (F := F)) 𝒱₀ (c : Thread nD τ) none) Set.univ (k v) Qα)
        -∗ wp frame (wpE (defs₀ (F := F)) 𝒱₀ (c : Thread nD τ) none) Set.univ
          (.op (.load (Memref.whole cc0_scratch1) (Rect.unit (s := S1x1280x2048) so S1x128x2048.size i1).toLoadRect hl) k) Qα) := by
  subst hso
  unfold Sf sP
  iintro ⟨%f, Hg⟩ Hk
  iapply (wp_load_rect 𝒱₀ (c : Thread nD τ) none Set.univ (m := Memref.whole cc0_scratch1) (Finset.Subset.refl _)) $$ Hg
  iintro Hg
  iapply Hk
  iexists f; iexact Hg

/-- The store of a narrowed chunk, ready to be sent. -/
theorem step_store (t : Fin 32) (ht : t.val < 10)
    {α : Type} {Qα : α → sProp 𝕄} {k : PUnit → Prog (TpuEff nD τ sig (Elt F) Λ₀ .tc) α} {w : FVec F S1x128x2048 .bf16}
    (hw : w = nar m c (chunk t c))
    {so : Fin 3 → ℕ} (hso : so = ![0, 128 * (Fin.ofNat 10 t.val : Fin 10).val, 0]) {i1 : ∀ a, so a + S1x128x2048.size a ≤ S1x1280x2048.size a} {hx hm} :
    Sf (F := F) c (Fin.ofNat 10 t.val)
      ⊢ iprop((sendPay m c t -∗ wp frame (wpE (defs₀ (F := F)) 𝒱₀ (c : Thread nD τ) none) Set.univ (k ⟨⟩) Qα)
        -∗ wp frame (wpE (defs₀ (F := F)) 𝒱₀ (c : Thread nD τ) none) Set.univ
          (.op (.store (Memref.whole cc0_scratch1) (Rect.unit (s := S1x1280x2048) so S1x128x2048.size i1) w Finset.univ hx hm) k) Qα) := by
  subst hso hw
  unfold Sf sP sendPay
  rw [if_pos ht]
  iintro ⟨%f, Hg⟩ Hk
  iapply (wp_store 𝒱₀ (c : Thread nD τ) none Set.univ (m := Memref.whole cc0_scratch1)
    (r := Rect.unit (s := S1x1280x2048) ![0, 128 * (Fin.ofNat 10 t.val : Fin 10).val, 0] S1x128x2048.size i1) (Mk := Finset.univ)
    (S := (sSl (Fin.ofNat 10 t.val)).view.set) (Finset.Subset.refl _)) $$ Hg
  iintro Hg
  iapply Hk
  unfold sP
  iexists _; isplitl [Hg]; · iexact Hg
  ipureintro; exact View.read_write_univ _ _

end Steps

end Cert.Swap
-- ==== Proof.Relay.lean ====
/-
The barrier steps, and how what has arrived becomes the source of what is sent on.
-/
module

public import proofs.«01_k».proof.Proof.Steps

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The barrier -/

/-- A unit on the barrier of the neighbour along `j`, with the places its transfers along `j` land in. -/
theorem step_signal (j : Fin 3) (O : CellTallies nD τ sig Unit)
    {α : Type} {Qα : α → sProp 𝕄} {k : PUnit → Prog (TpuEff nD τ sig (Elt F) Λ₀ .tc) α}
    {d : Dev nD} (hd : d = nb j c) {s : Sem sig} (hs : s = barS) :
    iprop(Inv m K ∗ (∃ W, owes (c : Thread nD τ) (O + tallyAt (barCell (nb j c)) () 1) W) ∗ dutyTok ER (barCell (nb j c)) 0 j
        ∗ bigSep (along j) (land c))
      ⊢ iprop(((∃ W, owes (c : Thread nD τ) O W) -∗ wp frame (wpE (defs₀ (F := F)) 𝒱₀ (c : Thread nD τ) none) Set.univ (k ⟨⟩) Qα)
        -∗ wp frame (wpE (defs₀ (F := F)) 𝒱₀ (c : Thread nD τ) none) Set.univ (.op (.semSignal (d, .tc) s (1#32 : BitVec 32).toInt) k) Qα) := by
  subst hd hs
  iintro ⟨#HI, ⟨%W, HO⟩, Ht, Hl⟩ Hk
  ihave #I1 := (inv_at m K (nb j c, 0)) $$ HI
  ihave #R1 := (inv_reached m K (nb j c, 0)) $$ HI
  rw [kcell_bar]
  iapply (Rounds.wp_signal 𝒱₀ ER (swapRd m) (c : Thread nD τ) none (dst := (nb j c : Thread nD τ)) (κ := K (nb j c, 0)) (r := 0)
      (d := j) (by rw [duties_bar]; exact Finset.mem_univ _) ((amount_bar m (nb j c) 0 j).trans (by decide)) () O rfl) $$ [HO Ht Hl]
  · isplitr; · iexact I1
    isplitl [HO]; · iexact HO
    isplitl [Ht]; · iexact Ht
    isplitl [Hl]
    · rw [payload_bar]; unfold barPay; rw [nb_nb]; iexact Hl
    iexact R1
  iintro HO
  iapply Hk
  iexists W; iexact HO

omit [FloatOps F] in
/-- The places the three neighbours handed over are those all 32 transfers go to. -/
theorem lands : (bigSep Finset.univ fun j => barPay (F := F) c j) = bigSep Finset.univ fun t => land (F := F) (peer t c) t := by
  rw [bigSep_fiberwise Finset.univ kind, show (Finset.univ : Finset (Fin 32)).image kind = Finset.univ from by decide]
  refine bigSep_congr fun j _ => ?_
  unfold barPay along
  refine bigSep_congr fun t ht => ?_
  rw [← (Finset.mem_filter.mp ht).2]

/-- The wait for all three neighbours. -/
theorem step_barrier
    {α : Type} {Qα : α → sProp 𝕄} {k : PUnit → Prog (TpuEff nD τ sig (Elt F) Λ₀ .tc) α} {s : Sem sig} (hs : s = barS) :
    iprop(Inv m K ∗ OW c 32 ∗ atPos ER (barCell c) 0 ∅ 0 ∗ cred (tallyAt (barCell c) () 3))
      ⊢ iprop(((OW c 32 ∗ semVal (barCell c) 0 ∗ bigSep Finset.univ fun t => land (F := F) (peer t c) t)
            -∗ wp frame (wpE (defs₀ (F := F)) 𝒱₀ (c : Thread nD τ) none) Set.univ (k ⟨⟩) Qα)
        -∗ wp frame (wpE (defs₀ (F := F)) 𝒱₀ (c : Thread nD τ) none) Set.univ (.op (.semWait s (3#32 : BitVec 32).toInt) k) Qα) := by
  subst hs
  unfold OW
  iintro ⟨#HI, ⟨%W, HO⟩, Hat, Hc⟩ Hk
  ihave #I1 := (inv_at m K (c, 0)) $$ HI
  ihave #Hl := (inv_lev m K) $$ HI
  rw [kcell_bar]
  iapply (Rounds.wp_wait_rest_token 𝒱₀ ER (swapRd m) (c : Thread nD τ) none (κ := K (c, 0))
      (wpE_semWait_eq 𝒱₀ (c : Thread nD τ) none Set.univ) (Set.mem_univ _) () (O := owe c 32) (W := W) (R := 0) (m := 0) (T := ∅)
      (by rw [expect_bar]; decide)) $$ [Hc HO Hat]
  · isplitr; · iexact I1
    isplitl [Hc]; · iexact Hc
    isplitl [HO]; · iexact HO
    isplitr
    · iapply (mayWait_owe c (.reg barS) 32 le_rfl (fun u _ => one_lt_lev u)); iexact Hl
    iexact Hat
  iintro ⟨HO, Hat, -, Hp⟩
  ihave Hp := (Entails.of_eq ((rest_bar m c).trans (lands c))) $$ Hp
  imod (Rounds.cell_close ER (swapRd m) (Set.mem_univ (K (c, 0))) (fun h => h) (R := 0 + 1) (later_bar m c)) $$ [Hat] with Hz
  · isplitr; · iexact I1
    iexact Hat
  iapply Hk
  isplitl [HO]; · iexists _; iexact HO
  isplitl [Hz] <;> iassumption

/-! ## Passing on -/

/-- A chunk that arrived along y is the source of two relays: half a share for each. -/
theorem halves (t a b : Fin 32) (h : t.val < 7 ∧ a.val = 10 + 2 * t.val ∧ b.val = 11 + 2 * t.val) :
    recvPay m c t = iprop(sendPay m c a ∗ sendPay m c b) := by
  obtain ⟨ht, ha, hb⟩ := h
  have va : via a = t := by
    apply Fin.ext; unfold via
    rw [if_neg (by omega), if_pos (by omega)]
    show ((a.val - 10) / 2) % 32 = t.val
    omega
  have vb : via b = t := by
    apply Fin.ext; unfold via
    rw [if_neg (by omega), if_pos (by omega)]
    show ((b.val - 10) / 2) % 32 = t.val
    omega
  have sa : shr a = fullShare.left := by unfold shr; rw [if_pos (by omega), if_pos (by omega)]
  have sb : shr b = fullShare.right := by unfold shr; rw [if_pos (by omega), if_neg (by omega)]
  unfold recvPay sendPay
  rw [if_neg (by omega), if_neg (by omega), chunk_via a c (by omega), chunk_via b c (by omega), va, vb, sa, sb]
  unfold oP
  exact Entails.antisymm (pointsTo_share (PosShare.mem_left_op_right fullShare)).1 (pointsTo_share (PosShare.mem_left_op_right fullShare)).2

/-- A chunk that arrived by transfer `via t` is the source of the later relay `t`. -/
theorem pass (t : Fin 32) (h : 24 ≤ t.val) : recvPay m c (via t) = sendPay m c t := by
  unfold recvPay sendPay
  rw [if_neg (by omega), chunk_via t c (by omega), show shr t = fullShare from if_neg (by omega)]

/-- After the waits a part of the send buffer is free. -/
theorem sent_free (t : Fin 32) (h : t.val < 10) : sendPay m c t ⊢ Sf (F := F) c (Fin.ofNat 10 t.val) := by
  unfold sendPay Sf
  rw [if_pos h]
  iintro ⟨%f, H, -⟩; iexists f; iexact H

/-! ## Lists -/

omit [FloatOps F] in
theorem list10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem list32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

end Cert.Swap
-- ==== Proof.Closed.lean ====
/-
The kernel's own expressions for devices and rows, in terms of the mesh.
-/
module

public import proofs.«01_k».proof.Proof.Relay

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Rows -/

theorem off_0 (c : Dev nD) : k0_off1 c 0#32 = ![0, 128 * (chunk 0 c).val, 0] := by revert c; decide +kernel
theorem off_1 (c : Dev nD) : k0_off1 c 128#32 = ![0, 128 * (chunk 1 c).val, 0] := by revert c; decide +kernel
theorem off_2 (c : Dev nD) : k0_off1 c 256#32 = ![0, 128 * (chunk 2 c).val, 0] := by revert c; decide +kernel
theorem off_3 (c : Dev nD) : k0_off1 c 384#32 = ![0, 128 * (chunk 3 c).val, 0] := by revert c; decide +kernel
theorem off_4 (c : Dev nD) : k0_off1 c 512#32 = ![0, 128 * (chunk 4 c).val, 0] := by revert c; decide +kernel
theorem off_5 (c : Dev nD) : k0_off1 c 640#32 = ![0, 128 * (chunk 5 c).val, 0] := by revert c; decide +kernel
theorem off_6 (c : Dev nD) : k0_off1 c 768#32 = ![0, 128 * (chunk 6 c).val, 0] := by revert c; decide +kernel
theorem off_7 (c : Dev nD) : k0_off2 c 896#32 = ![0, 128 * (chunk 7 c).val, 0] := by revert c; decide +kernel
theorem off_8 (c : Dev nD) : k0_off3 c 896#32 = ![0, 128 * (chunk 8 c).val, 0] := by revert c; decide +kernel
theorem off_9 (c : Dev nD) : k0_off1 c 896#32 = ![0, 128 * (chunk 9 c).val, 0] := by revert c; decide +kernel
theorem off_10 (c : Dev nD) : k0_off1 c 0#32 = ![0, 128 * (chunk 10 c).val, 0] := by revert c; decide +kernel
theorem off_11 (c : Dev nD) : k0_off1 c 0#32 = ![0, 128 * (chunk 11 c).val, 0] := by revert c; decide +kernel
theorem off_12 (c : Dev nD) : k0_off1 c 128#32 = ![0, 128 * (chunk 12 c).val, 0] := by revert c; decide +kernel
theorem off_13 (c : Dev nD) : k0_off1 c 128#32 = ![0, 128 * (chunk 13 c).val, 0] := by revert c; decide +kernel
theorem off_14 (c : Dev nD) : k0_off1 c 256#32 = ![0, 128 * (chunk 14 c).val, 0] := by revert c; decide +kernel
theorem off_15 (c : Dev nD) : k0_off1 c 256#32 = ![0, 128 * (chunk 15 c).val, 0] := by revert c; decide +kernel
theorem off_16 (c : Dev nD) : k0_off1 c 384#32 = ![0, 128 * (chunk 16 c).val, 0] := by revert c; decide +kernel
theorem off_17 (c : Dev nD) : k0_off1 c 384#32 = ![0, 128 * (chunk 17 c).val, 0] := by revert c; decide +kernel
theorem off_18 (c : Dev nD) : k0_off1 c 512#32 = ![0, 128 * (chunk 18 c).val, 0] := by revert c; decide +kernel
theorem off_19 (c : Dev nD) : k0_off1 c 512#32 = ![0, 128 * (chunk 19 c).val, 0] := by revert c; decide +kernel
theorem off_20 (c : Dev nD) : k0_off1 c 640#32 = ![0, 128 * (chunk 20 c).val, 0] := by revert c; decide +kernel
theorem off_21 (c : Dev nD) : k0_off1 c 640#32 = ![0, 128 * (chunk 21 c).val, 0] := by revert c; decide +kernel
theorem off_22 (c : Dev nD) : k0_off1 c 768#32 = ![0, 128 * (chunk 22 c).val, 0] := by revert c; decide +kernel
theorem off_23 (c : Dev nD) : k0_off1 c 768#32 = ![0, 128 * (chunk 23 c).val, 0] := by revert c; decide +kernel
theorem off_24 (c : Dev nD) : k0_off3 c 0#32 = ![0, 128 * (chunk 24 c).val, 0] := by revert c; decide +kernel
theorem off_25 (c : Dev nD) : k0_off2 c 512#32 = ![0, 128 * (chunk 25 c).val, 0] := by revert c; decide +kernel
theorem off_26 (c : Dev nD) : k0_off3 c 128#32 = ![0, 128 * (chunk 26 c).val, 0] := by revert c; decide +kernel
theorem off_27 (c : Dev nD) : k0_off2 c 640#32 = ![0, 128 * (chunk 27 c).val, 0] := by revert c; decide +kernel
theorem off_28 (c : Dev nD) : k0_off3 c 256#32 = ![0, 128 * (chunk 28 c).val, 0] := by revert c; decide +kernel
theorem off_29 (c : Dev nD) : k0_off2 c 768#32 = ![0, 128 * (chunk 29 c).val, 0] := by revert c; decide +kernel
theorem off_30 (c : Dev nD) : k0_off3 c 384#32 = ![0, 128 * (chunk 30 c).val, 0] := by revert c; decide +kernel
theorem off_31 (c : Dev nD) : k0_off2 c 896#32 = ![0, 128 * (chunk 31 c).val, 0] := by revert c; decide +kernel

/-! ## Devices: with `pi` the swap, the direct transfers go to the neighbour along y -/

theorem chk (c : Dev nD) : k0_chk1 c 1#32 0#32 := by revert c; decide +kernel
theorem dev_1 (c : Dev nD) (hw : k0_chk1 c 1#32 0#32) : (⟨k0_dev1 c 1#32 0#32, k0_dev1_lt c 1#32 0#32 hw⟩ : Dev nD) = nb 0 c :=
  Fin.ext ((by decide +kernel : ∀ c : Dev nD, k0_dev1 c 1#32 0#32 = (nb 0 c).val) c)
theorem dev_2 (c : Dev nD) : (⟨k0_dev2 c, k0_dev2_lt c⟩ : Dev nD) = nb 1 c :=
  Fin.ext ((by decide +kernel : ∀ c : Dev nD, k0_dev2 c = (nb 1 c).val) c)
theorem dev_3 (c : Dev nD) : (⟨k0_dev3 c, k0_dev3_lt c⟩ : Dev nD) = nb 2 c :=
  Fin.ext ((by decide +kernel : ∀ c : Dev nD, k0_dev3 c = (nb 2 c).val) c)
theorem dev_4 (c : Dev nD) (hw : k0_chk1 c 1#32 0#32) : (⟨k0_dev4 c 1#32 0#32, k0_dev4_lt c 1#32 0#32 hw⟩ : Dev nD) = peer 0 c :=
  Fin.ext ((by decide +kernel : ∀ c : Dev nD, k0_dev4 c 1#32 0#32 = (peer 0 c).val) c)
theorem dev_5 (c : Dev nD) (hw : k0_chk1 c 1#32 0#32) : (⟨k0_dev5 c 1#32 0#32, k0_dev5_lt c 1#32 0#32 hw⟩ : Dev nD) = peer 1 c :=
  Fin.ext ((by decide +kernel : ∀ c : Dev nD, k0_dev5 c 1#32 0#32 = (peer 1 c).val) c)
theorem dev_6 (c : Dev nD) (hw : k0_chk1 c 1#32 0#32) : (⟨k0_dev6 c 1#32 0#32, k0_dev6_lt c 1#32 0#32 hw⟩ : Dev nD) = peer 2 c :=
  Fin.ext ((by decide +kernel : ∀ c : Dev nD, k0_dev6 c 1#32 0#32 = (peer 2 c).val) c)
theorem dev_7 (c : Dev nD) (hw : k0_chk1 c 1#32 0#32) : (⟨k0_dev7 c 1#32 0#32, k0_dev7_lt c 1#32 0#32 hw⟩ : Dev nD) = peer 3 c :=
  Fin.ext ((by decide +kernel : ∀ c : Dev nD, k0_dev7 c 1#32 0#32 = (peer 3 c).val) c)
theorem dev_8 (c : Dev nD) (hw : k0_chk1 c 1#32 0#32) : (⟨k0_dev8 c 1#32 0#32, k0_dev8_lt c 1#32 0#32 hw⟩ : Dev nD) = peer 4 c :=
  Fin.ext ((by decide +kernel : ∀ c : Dev nD, k0_dev8 c 1#32 0#32 = (peer 4 c).val) c)
theorem dev_9 (c : Dev nD) (hw : k0_chk1 c 1#32 0#32) : (⟨k0_dev9 c 1#32 0#32, k0_dev9_lt c 1#32 0#32 hw⟩ : Dev nD) = peer 5 c :=
  Fin.ext ((by decide +kernel : ∀ c : Dev nD, k0_dev9 c 1#32 0#32 = (peer 5 c).val) c)
theorem dev_10 (c : Dev nD) (hw : k0_chk1 c 1#32 0#32) : (⟨k0_dev10 c 1#32 0#32, k0_dev10_lt c 1#32 0#32 hw⟩ : Dev nD) = peer 6 c :=
  Fin.ext ((by decide +kernel : ∀ c : Dev nD, k0_dev10 c 1#32 0#32 = (peer 6 c).val) c)
theorem dev_11 (c : Dev nD) (hw : k0_chk1 c 1#32 0#32) : (⟨k0_dev11 c 1#32 0#32, k0_dev11_lt c 1#32 0#32 hw⟩ : Dev nD) = peer 7 c :=
  Fin.ext ((by decide +kernel : ∀ c : Dev nD, k0_dev11 c 1#32 0#32 = (peer 7 c).val) c)
theorem dev_12 (c : Dev nD) (hw : k0_chk1 c 1#32 0#32) : (⟨k0_dev12 c 1#32 0#32, k0_dev12_lt c 1#32 0#32 hw⟩ : Dev nD) = peer 8 c :=
  Fin.ext ((by decide +kernel : ∀ c : Dev nD, k0_dev12 c 1#32 0#32 = (peer 8 c).val) c)
theorem dev_13 (c : Dev nD) (hw : k0_chk1 c 1#32 0#32) : (⟨k0_dev13 c 1#32 0#32, k0_dev13_lt c 1#32 0#32 hw⟩ : Dev nD) = peer 9 c :=
  Fin.ext ((by decide +kernel : ∀ c : Dev nD, k0_dev13 c 1#32 0#32 = (peer 9 c).val) c)
theorem dev_14 (c : Dev nD) : (⟨k0_dev14 c, k0_dev14_lt c⟩ : Dev nD) = peer 10 c :=
  Fin.ext ((by decide +kernel : ∀ c : Dev nD, k0_dev14 c = (peer 10 c).val) c)
theorem dev_15 (c : Dev nD) : (⟨k0_dev15 c, k0_dev15_lt c⟩ : Dev nD) = peer 11 c :=
  Fin.ext ((by decide +kernel : ∀ c : Dev nD, k0_dev15 c = (peer 11 c).val) c)
theorem dev_16 (c : Dev nD) : (⟨k0_dev16 c, k0_dev16_lt c⟩ : Dev nD) = peer 12 c :=
  Fin.ext ((by decide +kernel : ∀ c : Dev nD, k0_dev16 c = (peer 12 c).val) c)
theorem dev_17 (c : Dev nD) : (⟨k0_dev17 c, k0_dev17_lt c⟩ : Dev nD) = peer 13 c :=
  Fin.ext ((by decide +kernel : ∀ c : Dev nD, k0_dev17 c = (peer 13 c).val) c)
theorem dev_18 (c : Dev nD) : (⟨k0_dev18 c, k0_dev18_lt c⟩ : Dev nD) = peer 14 c :=
  Fin.ext ((by decide +kernel : ∀ c : Dev nD, k0_dev18 c = (peer 14 c).val) c)
theorem dev_19 (c : Dev nD) : (⟨k0_dev19 c, k0_dev19_lt c⟩ : Dev nD) = peer 15 c :=
  Fin.ext ((by decide +kernel : ∀ c : Dev nD, k0_dev19 c = (peer 15 c).val) c)
theorem dev_20 (c : Dev nD) : (⟨k0_dev20 c, k0_dev20_lt c⟩ : Dev nD) = peer 16 c :=
  Fin.ext ((by decide +kernel : ∀ c : Dev nD, k0_dev20 c = (peer 16 c).val) c)
theorem dev_21 (c : Dev nD) : (⟨k0_dev21 c, k0_dev21_lt c⟩ : Dev nD) = peer 17 c :=
  Fin.ext ((by decide +kernel : ∀ c : Dev nD, k0_dev21 c = (peer 17 c).val) c)
theorem dev_22 (c : Dev nD) : (⟨k0_dev22 c, k0_dev22_lt c⟩ : Dev nD) = peer 18 c :=
  Fin.ext ((by decide +kernel : ∀ c : Dev nD, k0_dev22 c = (peer 18 c).val) c)
theorem dev_23 (c : Dev nD) : (⟨k0_dev23 c, k0_dev23_lt c⟩ : Dev nD) = peer 19 c :=
  Fin.ext ((by decide +kernel : ∀ c : Dev nD, k0_dev23 c = (peer 19 c).val) c)
theorem dev_24 (c : Dev nD) : (⟨k0_dev24 c, k0_dev24_lt c⟩ : Dev nD) = peer 20 c :=
  Fin.ext ((by decide +kernel : ∀ c : Dev nD, k0_dev24 c = (peer 20 c).val) c)
theorem dev_25 (c : Dev nD) : (⟨k0_dev25 c, k0_dev25_lt c⟩ : Dev nD) = peer 21 c :=
  Fin.ext ((by decide +kernel : ∀ c : Dev nD, k0_dev25 c = (peer 21 c).val) c)
theorem dev_26 (c : Dev nD) : (⟨k0_dev26 c, k0_dev26_lt c⟩ : Dev nD) = peer 22 c :=
  Fin.ext ((by decide +kernel : ∀ c : Dev nD, k0_dev26 c = (peer 22 c).val) c)
theorem dev_27 (c : Dev nD) : (⟨k0_dev27 c, k0_dev27_lt c⟩ : Dev nD) = peer 23 c :=
  Fin.ext ((by decide +kernel : ∀ c : Dev nD, k0_dev27 c = (peer 23 c).val) c)
theorem dev_28 (c : Dev nD) : (⟨k0_dev28 c, k0_dev28_lt c⟩ : Dev nD) = peer 24 c :=
  Fin.ext ((by decide +kernel : ∀ c : Dev nD, k0_dev28 c = (peer 24 c).val) c)
theorem dev_29 (c : Dev nD) : (⟨k0_dev29 c, k0_dev29_lt c⟩ : Dev nD) = peer 25 c :=
  Fin.ext ((by decide +kernel : ∀ c : Dev nD, k0_dev29 c = (peer 25 c).val) c)
theorem dev_30 (c : Dev nD) : (⟨k0_dev30 c, k0_dev30_lt c⟩ : Dev nD) = peer 26 c :=
  Fin.ext ((by decide +kernel : ∀ c : Dev nD, k0_dev30 c = (peer 26 c).val) c)
theorem dev_31 (c : Dev nD) : (⟨k0_dev31 c, k0_dev31_lt c⟩ : Dev nD) = peer 27 c :=
  Fin.ext ((by decide +kernel : ∀ c : Dev nD, k0_dev31 c = (peer 27 c).val) c)
theorem dev_32 (c : Dev nD) : (⟨k0_dev32 c, k0_dev32_lt c⟩ : Dev nD) = peer 28 c :=
  Fin.ext ((by decide +kernel : ∀ c : Dev nD, k0_dev32 c = (peer 28 c).val) c)
theorem dev_33 (c : Dev nD) : (⟨k0_dev33 c, k0_dev33_lt c⟩ : Dev nD) = peer 29 c :=
  Fin.ext ((by decide +kernel : ∀ c : Dev nD, k0_dev33 c = (peer 29 c).val) c)
theorem dev_34 (c : Dev nD) : (⟨k0_dev34 c, k0_dev34_lt c⟩ : Dev nD) = peer 30 c :=
  Fin.ext ((by decide +kernel : ∀ c : Dev nD, k0_dev34 c = (peer 30 c).val) c)
theorem dev_35 (c : Dev nD) : (⟨k0_dev35 c, k0_dev35_lt c⟩ : Dev nD) = peer 31 c :=
  Fin.ext ((by decide +kernel : ∀ c : Dev nD, k0_dev35 c = (peer 31 c).val) c)

/-! ## What is stored -/

section Pay
variable {F : FTy → Type} [FloatOps F]

local notation "𝕄" => MT nD τ sig Unit (Elt F) ℕ UU ℕ

variable (m : (ℓ : Loc nD τ sig) → Buf (Elt F) ℓ) (c : Dev nD)
variable (t : Fin 32)

theorem narrow_read {v : FVec F S1x1x128x2048 .f32}
    (h : shapeCast S1x128x2048 v shapeCasts_S1x1x128x2048_S1x128x2048 = (xSl (chunk t c)).view.read (Elt F) (X m c)) :
    truncf .bf16 (shapeCast S1x128x2048 v shapeCasts_S1x1x128x2048_S1x128x2048) bitsLt_bf16_f32 = nar m c (chunk t c) := by
  rw [h]; rfl
theorem narrow_whole {w : FVec F S1x128x2048 .bf16} (h : w = nar m c (chunk t c)) :
    shapeCast S1x128x2048 w shapeCasts_S1x128x2048_S1x128x2048 = nar m c (chunk t c) := by
  rw [h]; exact funext fun i => congrArg (nar m c (chunk t c)) (Shape.reshapeEquiv_self _ i)
theorem narrow_load {v : FVec F S1x1x128x2048 .f32}
    (h : shapeCast S1x128x2048 v shapeCasts_S1x1x128x2048_S1x128x2048 = (xSl (chunk t c)).view.read (Elt F) (X m c)) :
    shapeCast S1x128x2048 (truncf .bf16 (shapeCast S1x128x2048 v shapeCasts_S1x1x128x2048_S1x128x2048) bitsLt_bf16_f32)
      shapeCasts_S1x128x2048_S1x128x2048 = nar m c (chunk t c) :=
  narrow_whole m c t (narrow_read m c t h)
theorem narrow_late {w : FVec F S1x128x2048 .f32} (h : w = (xSl (chunk t c)).view.read (Elt F) (X m c)) :
    shapeCast S1x128x2048 (truncf .bf16 w bitsLt_bf16_f32) shapeCasts_S1x128x2048_S1x128x2048 = nar m c (chunk t c) :=
  narrow_whole m c t (by rw [h]; rfl)

end Pay

/-! ## Waits: what a transfer credits is its buffer's and its shape's -/

section Waits
variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem credit_out {o : Fin 3 → ℕ} {i : ∀ a, o a + S1x128x2048.size a ≤ S1x4096x2048.size a} {e} :
    ((Memref.whole main_v1).slice (Rect.unit (s := S1x4096x2048) o S1x128x2048.size i) e).view.dmaCredit = N := rfl
theorem credit_buf {o : Fin 3 → ℕ} {i : ∀ a, o a + S1x128x2048.size a ≤ S1x1280x2048.size a} {e} :
    ((Memref.whole cc0_scratch1).slice (Rect.unit (s := S1x1280x2048) o S1x128x2048.size i) e).view.dmaCredit = N := by
  show (sSl 0).view.dmaCredit = (oSl 0).view.dmaCredit
  decide +kernel
theorem credit_copy (b : Fin 2) : (gSl b).view.dmaCredit = NC := rfl

theorem wait_sent (t : Fin 32) (n : ℕ) (hn : n ≤ 32)
    {α : Type} {Qα : α → sProp 𝕄} {k : PUnit → Prog (TpuEff nD τ sig (Elt F) Λ₀ .tc) α}
    {s1 : DmaSem sig} (h1 : s1 = sendIx t) {sp : Space} {src : Memref sig .tc sp S1x128x2048 .bf16} {o : Fin 3 → ℕ} {i : ∀ a, o a + S1x128x2048.size a ≤ S1x4096x2048.size a} {e w1 w2} :
    iprop(Inv m K ∗ OW c n ∗ Sd c t)
      ⊢ iprop(((OW c n ∗ Zs c t ∗ sendPay m c t) -∗ wp frame (wpE (defs₀ (F := F)) 𝒱₀ (c : Thread nD τ) none) Set.univ (k ⟨⟩) Qα)
        -∗ wp frame (wpE (defs₀ (F := F)) 𝒱₀ (c : Thread nD τ) none) Set.univ
          (.op (.waitDma2 s1 src ((Memref.whole main_v1).slice (Rect.unit (s := S1x4096x2048) o S1x128x2048.size i) e) w1 w2) k) Qα) :=
  step_sent m K c t n hn h1 credit_out
theorem wait_left (t : Fin 32) (n : ℕ) (hn : n ≤ 32)
    {α : Type} {Qα : α → sProp 𝕄} {k : PUnit → Prog (TpuEff nD τ sig (Elt F) Λ₀ .tc) α}
    {s1 : DmaSem sig} (h1 : s1 = sendIx t) {sp : Space} {src : Memref sig .tc sp S1x128x2048 .bf16} {o : Fin 3 → ℕ} {i : ∀ a, o a + S1x128x2048.size a ≤ S1x1280x2048.size a} {e w1 w2} :
    iprop(Inv m K ∗ OW c n ∗ Sd c t)
      ⊢ iprop(((OW c n ∗ Zs c t ∗ sendPay m c t) -∗ wp frame (wpE (defs₀ (F := F)) 𝒱₀ (c : Thread nD τ) none) Set.univ (k ⟨⟩) Qα)
        -∗ wp frame (wpE (defs₀ (F := F)) 𝒱₀ (c : Thread nD τ) none) Set.univ
          (.op (.waitDma2 s1 src ((Memref.whole cc0_scratch1).slice (Rect.unit (s := S1x1280x2048) o S1x128x2048.size i) e) w1 w2) k) Qα) :=
  step_sent m K c t n hn h1 credit_buf
theorem wait_arrived (t : Fin 32) (n : ℕ) (hn : n ≤ 32) (hlev : ∀ u : Fin 32, 32 - n ≤ u.val → lev t < lev u)
    {α : Type} {Qα : α → sProp 𝕄} {k : PUnit → Prog (TpuEff nD τ sig (Elt F) Λ₀ .tc) α}
    {s1 : DmaSem sig} (h1 : s1 = recvIx t) {sp : Space} {src : Memref sig .tc sp S1x128x2048 .bf16} {o : Fin 3 → ℕ} {i : ∀ a, o a + S1x128x2048.size a ≤ S1x4096x2048.size a} {e w1 w2} :
    iprop(Inv m K ∗ OW c n ∗ Rx c t)
      ⊢ iprop(((OW c n ∗ Zr c t ∗ recvPay m c t) -∗ wp frame (wpE (defs₀ (F := F)) 𝒱₀ (c : Thread nD τ) none) Set.univ (k ⟨⟩) Qα)
        -∗ wp frame (wpE (defs₀ (F := F)) 𝒱₀ (c : Thread nD τ) none) Set.univ
          (.op (.waitDma2 s1 src ((Memref.whole main_v1).slice (Rect.unit (s := S1x4096x2048) o S1x128x2048.size i) e) w1 w2) k) Qα) :=
  step_arrived m K c t n hn hlev h1 credit_out
theorem wait_copied (b : Fin 2) (r : ℕ) (t : Fin 32) (ht : cpT b r = t) (hr : r < 5) (n : ℕ) (hn : n ≤ 32)
    {α : Type} {Qα : α → sProp 𝕄} {k : PUnit → Prog (TpuEff nD τ sig (Elt F) Λ₀ .tc) α}
    {s1 : DmaSem sig} (h1 : s1 = copyIx b) {sp : Space} {src : Memref sig .tc sp S1x128x2048 .f32} {w1 w2} :
    iprop(Inv m K ∗ OW c n ∗ Cf c b r)
      ⊢ iprop(((OW c n ∗ Cp c b (r + 1) ∗ Gh m c b t ∗ xP m c (chunk t c)) -∗ wp frame (wpE (defs₀ (F := F)) 𝒱₀ (c : Thread nD τ) none) Set.univ (k ⟨⟩) Qα)
        -∗ wp frame (wpE (defs₀ (F := F)) 𝒱₀ (c : Thread nD τ) none) Set.univ
          (.op (.waitDma2 s1 src (gSl b) w1 w2) k) Qα) := by
  subst ht
  exact step_copied m K c b r hr n hn h1 (credit_copy b)

theorem put (t : Fin 32) (j : Fin 10) (hj : Fin.ofNat 10 t.val = j) (ht : t.val < 10)
    {α : Type} {Qα : α → sProp 𝕄} {k : PUnit → Prog (TpuEff nD τ sig (Elt F) Λ₀ .tc) α} {w : FVec F S1x128x2048 .bf16}
    (hw : w = nar m c (chunk t c))
    {so : Fin 3 → ℕ} (hso : so = ![0, 128 * j.val, 0]) {i1 : ∀ a, so a + S1x128x2048.size a ≤ S1x1280x2048.size a} {hx hm} :
    Sf (F := F) c j
      ⊢ iprop((sendPay m c t -∗ wp frame (wpE (defs₀ (F := F)) 𝒱₀ (c : Thread nD τ) none) Set.univ (k ⟨⟩) Qα)
        -∗ wp frame (wpE (defs₀ (F := F)) 𝒱₀ (c : Thread nD τ) none) Set.univ
          (.op (.store (Memref.whole cc0_scratch1) (Rect.unit (s := S1x1280x2048) so S1x128x2048.size i1) w Finset.univ hx hm) k) Qα) := by
  subst hj
  exact step_store m c t ht hw hso

end Waits

end Cert.Swap
-- ==== Proof.Start.lean ====
/-
The start of the body: the table of pages is read, the barrier passed and the first copy started.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-- The table: device 0 along y reads page 1, device 1 page 0. -/
def swap (i : S2.Idx) : Elt F .i32 := if (i 0).val = 0 then 1#32 else 0#32
abbrev Table : sProp 𝕄 := ((c : Thread nD τ).loc cc0_stg0_0) ↦{fullShare} (swap (F := F))

/-- What device `c` owes before its signal to the neighbour along `j`, with what the signal hands over. -/
abbrev Ob (O : CellTallies nD τ sig Unit) : sProp 𝕄 := iprop(∃ W, owes (c : Thread nD τ) O W)
abbrev Sg (j : Fin 3) : sProp 𝕄 := iprop(dutyTok ER (barCell (nb j c)) 0 j ∗ bigSep (along j) (land c))

theorem part1 {Qα : (Σ' (d0 : Dev nD) (v2 : BitVec 32) (v5 : BitVec 32) (v8 : BitVec 32) (v10 : Elt F .i32) (v11 : Elt F .i32) (k0_hw1 : k0_chk1 d0 v10 v11) (v12 : BitVec 32) (v15 : BitVec 32) (v19 : BitVec 32) (v23 : BitVec 32) (v24 : BitVec 32) (v25 : BitVec 32), Sems sig S_) → sProp 𝕄} :
    iprop(Inv m K ∗ Table c ∗ Ob c (O₀ c) ∗ Sg c 0)
      ⊢ iprop((∀ v2 v5 v8 hw v12 v15 v19 v23 v24 v25, (Table c ∗ Ob c (O₁ c))
          -∗ Qα ⟨c, v2, v5, v8, 1#32, 0#32, hw, v12, v15, v19, v23, v24, v25, SemArray.scalar (sig.barrier 0 rfl)⟩)
        -∗ wp frame (wpE (defs₀ (F := F)) 𝒱₀ (c : Thread nD τ) none) Set.univ (k0_part1 (F := F) (Memref.whole main_arg0) (Memref.isWhole_whole _) (Memref.whole cc0_stg0_0) (Memref.isWhole_whole _) (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12) Qα) := by
  simp only [k0_part1_eq_skeleton]; unfold k0_part1_skel
  simp only [semSignalWord, smemLoad, smemLoadElt, Prog.lift, Prog.bind_op, Prog.bind_ret, Prog.pure_eq_ret, Prog.bind_assoc, wp_deviceId]
  iintro ⟨#HI, Ht, Ho, Hd, Hl⟩ Hk
  iapply (wp_load_rect 𝒱₀ (c : Thread nD τ) none Set.univ (m := Memref.whole cc0_stg0_0) (r := Rect.unit (s := S2) ![0] S1.size inb_S2_S1_0)
    (S := Finset.univ) (f := swap (F := F)) (q := fullShare) (Finset.subset_univ _)) $$ Ht
  iintro Ht
  iapply (wp_load_rect 𝒱₀ (c : Thread nD τ) none Set.univ (m := Memref.whole cc0_stg0_0) (r := Rect.unit (s := S2) ![1] S1.size inb_S2_S1_1)
    (S := Finset.univ) (f := swap (F := F)) (q := fullShare) (Finset.subset_univ _)) $$ Ht
  iintro Ht
  generalize e0 : View.read (Elt F) ((Memref.whole cc0_stg0_0).access (Rect.unit (s := S2) ![0] S1.size inb_S2_S1_0)) (swap (F := F)) (Shape.Idx.first _) = a0
  generalize e1 : View.read (Elt F) ((Memref.whole cc0_stg0_0).access (Rect.unit (s := S2) ![1] S1.size inb_S2_S1_1)) (swap (F := F)) (Shape.Idx.first _) = a1
  obtain rfl : 1#32 = a0 := (by rfl : (1#32 : Elt F .i32) = _).trans e0
  obtain rfl : 0#32 = a1 := (by rfl : (0#32 : Elt F .i32) = _).trans e1
  rw [wp_assume_of _ _ _ _ (chk c)]
  iapply (step_signal m K c 0 (O₁ c) (dev_1 c (chk c)) rfl) $$ [Ho Hd Hl]
  · isplitr; · iexact HI
    isplitl [Ho]; · iexact Ho
    isplitl [Hd]; · iexact Hd
    iexact Hl
  iintro Ho
  rw [wp_ret]; imodintro
  iapply Hk
  isplitl [Ht]; · iexact Ht
  iexact Ho

theorem part2 {arg1 : Memref sig .tc .smem S2 .i32} {harg1 : arg1.IsWhole} (v2 : BitVec 32) (v5 : BitVec 32) (v8 : BitVec 32) (v15 : BitVec 32) (v19 : BitVec 32) (v23 : BitVec 32) (v24 : BitVec 32) (v25 : BitVec 32) {Qα : PUnit → sProp 𝕄} :
    iprop(Inv m K ∗ Ob c (O₁ c) ∗ Sg c 1 ∗ Sg c 2 ∗ atPos ER (barCell c) 0 ∅ 0 ∗ cred (tallyAt (barCell c) () 3)
        ∗ Cp c 0 0 ∗ Gf c 0 ∗ xP m c (chunk 0 c))
      ⊢ iprop(((OW c 32 ∗ semVal (barCell c) 0 ∗ (bigSep Finset.univ fun t => land (F := F) (peer t c) t) ∗ Cf c 0 0) -∗ Qα ⟨⟩)
        -∗ wp frame (wpE (defs₀ (F := F)) 𝒱₀ (c : Thread nD τ) none) Set.univ (k0_part2 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v15 v19 v23 v24 v25 (SemArray.scalar (sig.barrier 0 rfl))) Qα) := by
  simp only [k0_part2_eq_skeleton]; unfold k0_part2_skel
  simp only [semSignalWord, semWaitWord, Prog.lift, Prog.bind_op, Prog.bind_ret, Prog.pure_eq_ret, Prog.bind_assoc]
  iintro ⟨#HI, Ho, ⟨Hd1, Hl1⟩, ⟨Hd2, Hl2⟩, Hat, Hc, HC_0_0, HGf_0, HX_0⟩ Hk
  iapply (step_signal m K c 1 (O₂ c) (dev_2 c) rfl) $$ [Ho Hd1 Hl1]
  · isplitr; · iexact HI
    isplitl [Ho]; · iexact Ho
    isplitl [Hd1]; · iexact Hd1
    iexact Hl1
  iintro Ho
  iapply (step_signal m K c 2 (owe c 32) (dev_3 c) rfl) $$ [Ho Hd2 Hl2]
  · isplitr; · iexact HI
    isplitl [Ho]; · iexact Ho
    isplitl [Hd2]; · iexact Hd2
    iexact Hl2
  iintro Ho
  ihave Ho := (Entails.of_eq (show Ob c (owe c 32) = OW (F := F) c 32 from rfl)) $$ Ho
  iapply (step_barrier m K c rfl) $$ [Ho Hat Hc]
  · isplitr; · iexact HI
    isplitl [Ho]; · iexact Ho
    isplitl [Hat]; · iexact Hat
    iexact Hc
  iintro ⟨Ho, Hs, Hl⟩
  iapply (step_copy m K c 0 0 (by decide) rfl (off_0 c) rfl) $$ [HC_0_0 HGf_0 HX_0]
  · isplitr; · iexact HI
    isplitl [HC_0_0]; · iexact HC_0_0
    isplitl [HGf_0]; · iexact HGf_0
    iexact HX_0
  iintro HK_0_0
  rw [wp_ret]; imodintro
  iapply Hk
  isplitl [Ho]; · iexact Ho
  isplitl [Hs]; · iexact Hs
  isplitl [Hl]; · iexact Hl
  iexact HK_0_0

end Cert.Swap
-- ==== Proof.PartsA.lean ====
/-
The first direct transfers: the parts of the kernel's body one by one, each with what it takes and what it leaves.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem part3 {arg1 : Memref sig .tc .smem S2 .i32} {harg1 : arg1.IsWhole} (v2 : BitVec 32) (v8 : BitVec 32) (v12 : BitVec 32)
    {Qα : PUnit → sProp 𝕄} :
    iprop(Inv m K ∗ Cp c 1 0 ∗ Gf c 1 ∗ xP m c (chunk 1 c) ∗ OW c 32 ∗ Cf c 0 0 ∗ Sf c 0)
      ⊢ iprop(((Cf c 1 0 ∗ OW c 32 ∗ Cp c 0 1 ∗ xP m c (chunk 0 c) ∗ Gh m c 0 0 ∗ sendPay m c 0) -∗ Qα ⟨⟩)
        -∗ wp frame (wpE (defs₀ (F := F)) 𝒱₀ (c : Thread nD τ) none) Set.univ (k0_part3 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 v12) Qα) := by
  simp only [k0_part3_eq_skeleton]; unfold k0_part3_skel
  simp only [Prog.lift, Prog.bind_op, Prog.bind_ret, Prog.pure_eq_ret]
  iintro ⟨#HI, HC_1_0, HGf_1, HX_1, HO_32, HK_0_0, HF_0⟩ Hk
  iapply (step_copy m K c 1 0 (by decide) rfl (off_1 c) rfl) $$ [HC_1_0 HGf_1 HX_1]
  · isplitr; · iexact HI
    isplitl [HC_1_0]; · iexact HC_1_0
    isplitl [HGf_1]; · iexact HGf_1
    iexact HX_1
  iintro HK_1_0
  iapply (wait_copied m K c 0 0 0 rfl (by decide) 32 (by decide) rfl) $$ [HO_32 HK_0_0]
  · isplitr; · iexact HI
    isplitl [HO_32]; · iexact HO_32
    iexact HK_0_0
  iintro ⟨HO_32, HC_0_1, HGh_0_0, HX_0⟩
  iapply (step_load m c 0 0 rfl) $$ HGh_0_0
  iintro %v0 ⟨%hv0, HGh_0_0⟩
  iapply (step_dead c 0 rfl) $$ HF_0
  iintro %w0 HF_0
  iapply (put m c 0 0 rfl (by decide) (narrow_load m c 0 hv0) rfl) $$ HF_0
  iintro HP_0
  rw [wp_ret]; imodintro
  iapply Hk
  isplitl [HK_1_0]; · iexact HK_1_0
  isplitl [HO_32]; · iexact HO_32
  isplitl [HC_0_1]; · iexact HC_0_1
  isplitl [HX_0]; · iexact HX_0
  isplitl [HGh_0_0]; · iexact HGh_0_0
  iexact HP_0

theorem part4 {arg1 : Memref sig .tc .smem S2 .i32} {harg1 : arg1.IsWhole} (v2 : BitVec 32) (v8 : BitVec 32) (hw : k0_chk1 c 1#32 0#32) (v12 : BitVec 32)
    {Qα : PUnit → sProp 𝕄} :
    iprop(Inv m K ∗ OW c 32 ∗ Tr c 0 ∗ sendPay m c 0 ∗ Gh m c 0 0 ∗ Cp c 0 1 ∗ xP m c (chunk 2 c) ∗ Cf c 1 0 ∗ Sf c 1)
      ⊢ iprop(((Sd c 0 ∗ Cf c 0 1 ∗ OW c 31 ∗ Cp c 1 1 ∗ xP m c (chunk 1 c) ∗ Gh m c 1 1 ∗ sendPay m c 1) -∗ Qα ⟨⟩)
        -∗ wp frame (wpE (defs₀ (F := F)) 𝒱₀ (c : Thread nD τ) none) Set.univ (k0_part4 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12) Qα) := by
  simp only [k0_part4_eq_skeleton]; unfold k0_part4_skel
  simp only [Prog.lift, Prog.bind_op, Prog.bind_ret, Prog.pure_eq_ret]
  iintro ⟨#HI, HO_32, HT_0, HP_0, HGh_0_0, HC_0_1, HX_2, HK_1_0, HF_1⟩ Hk
  iapply (step_direct m K c 0 (by decide) 31 rfl rfl (off_0 c) (dev_4 c hw) rfl rfl) $$ [HO_32 HT_0 HP_0]
  · isplitr; · iexact HI
    isplitl [HO_32]; · iexact HO_32
    isplitl [HT_0]; · iexact HT_0
    iexact HP_0
  iintro ⟨HO_31, HS_0⟩
  ihave HGf_0 := (Gh_free m c 0 0) $$ HGh_0_0
  iapply (step_copy m K c 0 1 (by decide) rfl (off_2 c) rfl) $$ [HC_0_1 HGf_0 HX_2]
  · isplitr; · iexact HI
    isplitl [HC_0_1]; · iexact HC_0_1
    isplitl [HGf_0]; · iexact HGf_0
    iexact HX_2
  iintro HK_0_1
  iapply (wait_copied m K c 1 0 1 rfl (by decide) 31 (by decide) rfl) $$ [HO_31 HK_1_0]
  · isplitr; · iexact HI
    isplitl [HO_31]; · iexact HO_31
    iexact HK_1_0
  iintro ⟨HO_31, HC_1_1, HGh_1_1, HX_1⟩
  iapply (step_load m c 1 1 rfl) $$ HGh_1_1
  iintro %v1 ⟨%hv1, HGh_1_1⟩
  iapply (step_dead c 1 rfl) $$ HF_1
  iintro %w1 HF_1
  iapply (put m c 1 1 rfl (by decide) (narrow_load m c 1 hv1) rfl) $$ HF_1
  iintro HP_1
  rw [wp_ret]; imodintro
  iapply Hk
  isplitl [HS_0]; · iexact HS_0
  isplitl [HK_0_1]; · iexact HK_0_1
  isplitl [HO_31]; · iexact HO_31
  isplitl [HC_1_1]; · iexact HC_1_1
  isplitl [HX_1]; · iexact HX_1
  isplitl [HGh_1_1]; · iexact HGh_1_1
  iexact HP_1

theorem part5 {arg1 : Memref sig .tc .smem S2 .i32} {harg1 : arg1.IsWhole} (v2 : BitVec 32) (v8 : BitVec 32) (hw : k0_chk1 c 1#32 0#32) (v12 : BitVec 32)
    {Qα : PUnit → sProp 𝕄} :
    iprop(Inv m K ∗ OW c 31 ∗ Tr c 1 ∗ sendPay m c 1 ∗ Gh m c 1 1 ∗ Cp c 1 1 ∗ xP m c (chunk 3 c) ∗ Cf c 0 1 ∗ Sf c 2)
      ⊢ iprop(((Sd c 1 ∗ Cf c 1 1 ∗ OW c 30 ∗ Cp c 0 2 ∗ xP m c (chunk 2 c) ∗ Gh m c 0 2 ∗ sendPay m c 2) -∗ Qα ⟨⟩)
        -∗ wp frame (wpE (defs₀ (F := F)) 𝒱₀ (c : Thread nD τ) none) Set.univ (k0_part5 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12) Qα) := by
  simp only [k0_part5_eq_skeleton]; unfold k0_part5_skel
  simp only [Prog.lift, Prog.bind_op, Prog.bind_ret, Prog.pure_eq_ret]
  iintro ⟨#HI, HO_31, HT_1, HP_1, HGh_1_1, HC_1_1, HX_3, HK_0_1, HF_2⟩ Hk
  iapply (step_direct m K c 1 (by decide) 30 rfl rfl (off_1 c) (dev_5 c hw) rfl rfl) $$ [HO_31 HT_1 HP_1]
  · isplitr; · iexact HI
    isplitl [HO_31]; · iexact HO_31
    isplitl [HT_1]; · iexact HT_1
    iexact HP_1
  iintro ⟨HO_30, HS_1⟩
  ihave HGf_1 := (Gh_free m c 1 1) $$ HGh_1_1
  iapply (step_copy m K c 1 1 (by decide) rfl (off_3 c) rfl) $$ [HC_1_1 HGf_1 HX_3]
  · isplitr; · iexact HI
    isplitl [HC_1_1]; · iexact HC_1_1
    isplitl [HGf_1]; · iexact HGf_1
    iexact HX_3
  iintro HK_1_1
  iapply (wait_copied m K c 0 1 2 rfl (by decide) 30 (by decide) rfl) $$ [HO_30 HK_0_1]
  · isplitr; · iexact HI
    isplitl [HO_30]; · iexact HO_30
    iexact HK_0_1
  iintro ⟨HO_30, HC_0_2, HGh_0_2, HX_2⟩
  iapply (step_load m c 0 2 rfl) $$ HGh_0_2
  iintro %v2 ⟨%hv2, HGh_0_2⟩
  iapply (step_dead c 2 rfl) $$ HF_2
  iintro %w2 HF_2
  iapply (put m c 2 2 rfl (by decide) (narrow_load m c 2 hv2) rfl) $$ HF_2
  iintro HP_2
  rw [wp_ret]; imodintro
  iapply Hk
  isplitl [HS_1]; · iexact HS_1
  isplitl [HK_1_1]; · iexact HK_1_1
  isplitl [HO_30]; · iexact HO_30
  isplitl [HC_0_2]; · iexact HC_0_2
  isplitl [HX_2]; · iexact HX_2
  isplitl [HGh_0_2]; · iexact HGh_0_2
  iexact HP_2

theorem part6 {arg1 : Memref sig .tc .smem S2 .i32} {harg1 : arg1.IsWhole} (v2 : BitVec 32) (hw : k0_chk1 c 1#32 0#32) (v12 : BitVec 32)
    {Qα : (Σ' (v161 : BitVec 32), BitVec 32) → sProp 𝕄} :
    iprop(Inv m K ∗ OW c 30 ∗ Tr c 2 ∗ sendPay m c 2 ∗ Gh m c 0 2 ∗ Cp c 0 2 ∗ xP m c (chunk 4 c) ∗ Cf c 1 1 ∗ Sf c 3)
      ⊢ iprop((∀ a, (Sd c 2 ∗ Cf c 0 2 ∗ OW c 29 ∗ Cp c 1 2 ∗ xP m c (chunk 3 c) ∗ Gh m c 1 3 ∗ sendPay m c 3) -∗ Qα a)
        -∗ wp frame (wpE (defs₀ (F := F)) 𝒱₀ (c : Thread nD τ) none) Set.univ (k0_part6 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 1#32 0#32 hw v12) Qα) := by
  simp only [k0_part6_eq_skeleton]; unfold k0_part6_skel
  simp only [Prog.lift, Prog.bind_op, Prog.bind_ret, Prog.pure_eq_ret]
  iintro ⟨#HI, HO_30, HT_2, HP_2, HGh_0_2, HC_0_2, HX_4, HK_1_1, HF_3⟩ Hk
  iapply (step_direct m K c 2 (by decide) 29 rfl rfl (off_2 c) (dev_6 c hw) rfl rfl) $$ [HO_30 HT_2 HP_2]
  · isplitr; · iexact HI
    isplitl [HO_30]; · iexact HO_30
    isplitl [HT_2]; · iexact HT_2
    iexact HP_2
  iintro ⟨HO_29, HS_2⟩
  ihave HGf_0 := (Gh_free m c 0 2) $$ HGh_0_2
  iapply (step_copy m K c 0 2 (by decide) rfl (off_4 c) rfl) $$ [HC_0_2 HGf_0 HX_4]
  · isplitr; · iexact HI
    isplitl [HC_0_2]; · iexact HC_0_2
    isplitl [HGf_0]; · iexact HGf_0
    iexact HX_4
  iintro HK_0_2
  iapply (wait_copied m K c 1 1 3 rfl (by decide) 29 (by decide) rfl) $$ [HO_29 HK_1_1]
  · isplitr; · iexact HI
    isplitl [HO_29]; · iexact HO_29
    iexact HK_1_1
  iintro ⟨HO_29, HC_1_2, HGh_1_3, HX_3⟩
  iapply (step_load m c 1 3 rfl) $$ HGh_1_3
  iintro %v3 ⟨%hv3, HGh_1_3⟩
  iapply (step_dead c 3 rfl) $$ HF_3
  iintro %w3 HF_3
  iapply (put m c 3 3 rfl (by decide) (narrow_load m c 3 hv3) rfl) $$ HF_3
  iintro HP_3
  rw [wp_ret]; imodintro
  iapply Hk
  isplitl [HS_2]; · iexact HS_2
  isplitl [HK_0_2]; · iexact HK_0_2
  isplitl [HO_29]; · iexact HO_29
  isplitl [HC_1_2]; · iexact HC_1_2
  isplitl [HX_3]; · iexact HX_3
  isplitl [HGh_1_3]; · iexact HGh_1_3
  iexact HP_3

theorem part7 {arg1 : Memref sig .tc .smem S2 .i32} {harg1 : arg1.IsWhole} (v2 : BitVec 32) (v8 : BitVec 32) (hw : k0_chk1 c 1#32 0#32) (v161 : BitVec 32) (v162 : BitVec 32)
    {Qα : BitVec 32 → sProp 𝕄} :
    iprop(Inv m K ∗ OW c 29 ∗ Tr c 3 ∗ sendPay m c 3 ∗ Gh m c 1 3 ∗ Cp c 1 2 ∗ xP m c (chunk 5 c) ∗ Cf c 0 2 ∗ Sf c 4)
      ⊢ iprop((∀ a, (Sd c 3 ∗ Cf c 1 2 ∗ OW c 28 ∗ Cp c 0 3 ∗ xP m c (chunk 4 c) ∗ Gh m c 0 4 ∗ sendPay m c 4) -∗ Qα a)
        -∗ wp frame (wpE (defs₀ (F := F)) 𝒱₀ (c : Thread nD τ) none) Set.univ (k0_part7 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v161 v162) Qα) := by
  simp only [k0_part7_eq_skeleton]; unfold k0_part7_skel
  simp only [Prog.lift, Prog.bind_op, Prog.bind_ret, Prog.pure_eq_ret]
  iintro ⟨#HI, HO_29, HT_3, HP_3, HGh_1_3, HC_1_2, HX_5, HK_0_2, HF_4⟩ Hk
  iapply (step_direct m K c 3 (by decide) 28 rfl rfl (off_3 c) (dev_7 c hw) rfl rfl) $$ [HO_29 HT_3 HP_3]
  · isplitr; · iexact HI
    isplitl [HO_29]; · iexact HO_29
    isplitl [HT_3]; · iexact HT_3
    iexact HP_3
  iintro ⟨HO_28, HS_3⟩
  ihave HGf_1 := (Gh_free m c 1 3) $$ HGh_1_3
  iapply (step_copy m K c 1 2 (by decide) rfl (off_5 c) rfl) $$ [HC_1_2 HGf_1 HX_5]
  · isplitr; · iexact HI
    isplitl [HC_1_2]; · iexact HC_1_2
    isplitl [HGf_1]; · iexact HGf_1
    iexact HX_5
  iintro HK_1_2
  iapply (wait_copied m K c 0 2 4 rfl (by decide) 28 (by decide) rfl) $$ [HO_28 HK_0_2]
  · isplitr; · iexact HI
    isplitl [HO_28]; · iexact HO_28
    iexact HK_0_2
  iintro ⟨HO_28, HC_0_3, HGh_0_4, HX_4⟩
  iapply (step_load m c 0 4 rfl) $$ HGh_0_4
  iintro %v4 ⟨%hv4, HGh_0_4⟩
  iapply (step_dead c 4 rfl) $$ HF_4
  iintro %w4 HF_4
  iapply (put m c 4 4 rfl (by decide) (narrow_load m c 4 hv4) rfl) $$ HF_4
  iintro HP_4
  rw [wp_ret]; imodintro
  iapply Hk
  isplitl [HS_3]; · iexact HS_3
  isplitl [HK_1_2]; · iexact HK_1_2
  isplitl [HO_28]; · iexact HO_28
  isplitl [HC_0_3]; · iexact HC_0_3
  isplitl [HX_4]; · iexact HX_4
  isplitl [HGh_0_4]; · iexact HGh_0_4
  iexact HP_4

theorem part8 {arg1 : Memref sig .tc .smem S2 .i32} {harg1 : arg1.IsWhole} (v8 : BitVec 32) (hw : k0_chk1 c 1#32 0#32) (v12 : BitVec 32) (v188 : BitVec 32)
    {Qα : PUnit → sProp 𝕄} :
    iprop(Inv m K ∗ OW c 28 ∗ Tr c 4 ∗ sendPay m c 4 ∗ Gh m c 0 4 ∗ Cp c 0 3 ∗ xP m c (chunk 6 c) ∗ Cf c 1 2 ∗ Sf c 5)
      ⊢ iprop(((Sd c 4 ∗ Cf c 0 3 ∗ OW c 27 ∗ Cp c 1 3 ∗ xP m c (chunk 5 c) ∗ Gh m c 1 5 ∗ sendPay m c 5) -∗ Qα ⟨⟩)
        -∗ wp frame (wpE (defs₀ (F := F)) 𝒱₀ (c : Thread nD τ) none) Set.univ (k0_part8 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v8 1#32 0#32 hw v12 v188) Qα) := by
  simp only [k0_part8_eq_skeleton]; unfold k0_part8_skel
  simp only [Prog.lift, Prog.bind_op, Prog.bind_ret, Prog.pure_eq_ret]
  iintro ⟨#HI, HO_28, HT_4, HP_4, HGh_0_4, HC_0_3, HX_6, HK_1_2, HF_5⟩ Hk
  iapply (step_direct m K c 4 (by decide) 27 rfl rfl (off_4 c) (dev_8 c hw) rfl rfl) $$ [HO_28 HT_4 HP_4]
  · isplitr; · iexact HI
    isplitl [HO_28]; · iexact HO_28
    isplitl [HT_4]; · iexact HT_4
    iexact HP_4
  iintro ⟨HO_27, HS_4⟩
  ihave HGf_0 := (Gh_free m c 0 4) $$ HGh_0_4
  iapply (step_copy m K c 0 3 (by decide) rfl (off_6 c) rfl) $$ [HC_0_3 HGf_0 HX_6]
  · isplitr; · iexact HI
    isplitl [HC_0_3]; · iexact HC_0_3
    isplitl [HGf_0]; · iexact HGf_0
    iexact HX_6
  iintro HK_0_3
  iapply (wait_copied m K c 1 2 5 rfl (by decide) 27 (by decide) rfl) $$ [HO_27 HK_1_2]
  · isplitr; · iexact HI
    isplitl [HO_27]; · iexact HO_27
    iexact HK_1_2
  iintro ⟨HO_27, HC_1_3, HGh_1_5, HX_5⟩
  iapply (step_load m c 1 5 rfl) $$ HGh_1_5
  iintro %v5 ⟨%hv5, HGh_1_5⟩
  iapply (step_dead c 5 rfl) $$ HF_5
  iintro %w5 HF_5
  iapply (put m c 5 5 rfl (by decide) (narrow_load m c 5 hv5) rfl) $$ HF_5
  iintro HP_5
  rw [wp_ret]; imodintro
  iapply Hk
  isplitl [HS_4]; · iexact HS_4
  isplitl [HK_0_3]; · iexact HK_0_3
  isplitl [HO_27]; · iexact HO_27
  isplitl [HC_1_3]; · iexact HC_1_3
  isplitl [HX_5]; · iexact HX_5
  isplitl [HGh_1_5]; · iexact HGh_1_5
  iexact HP_5

end Cert.Swap
-- ==== Proof.PartsB.lean ====
/-
The last direct transfers: the parts of the kernel's body one by one, each with what it takes and what it leaves.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem part9 {arg1 : Memref sig .tc .smem S2 .i32} {harg1 : arg1.IsWhole} (v2 : BitVec 32) (v8 : BitVec 32) (hw : k0_chk1 c 1#32 0#32) (v12 : BitVec 32)
    {Qα : FVec F S1x128x2048 .bf16 → sProp 𝕄} :
    iprop(Inv m K ∗ OW c 27 ∗ Tr c 5 ∗ sendPay m c 5 ∗ Gh m c 1 5 ∗ Cp c 1 3 ∗ xP m c (chunk 7 c) ∗ Cf c 0 3)
      ⊢ iprop((∀ a, (⌜a = nar m c (chunk 6 c)⌝ ∗ Sd c 5 ∗ Cf c 1 3 ∗ OW c 26 ∗ Cp c 0 4 ∗ xP m c (chunk 6 c) ∗ Gh m c 0 6) -∗ Qα a)
        -∗ wp frame (wpE (defs₀ (F := F)) 𝒱₀ (c : Thread nD τ) none) Set.univ (k0_part9 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12) Qα) := by
  simp only [k0_part9_eq_skeleton]; unfold k0_part9_skel
  simp only [Prog.lift, Prog.bind_op, Prog.bind_ret, Prog.pure_eq_ret]
  iintro ⟨#HI, HO_27, HT_5, HP_5, HGh_1_5, HC_1_3, HX_7, HK_0_3⟩ Hk
  iapply (step_direct m K c 5 (by decide) 26 rfl rfl (off_5 c) (dev_9 c hw) rfl rfl) $$ [HO_27 HT_5 HP_5]
  · isplitr; · iexact HI
    isplitl [HO_27]; · iexact HO_27
    isplitl [HT_5]; · iexact HT_5
    iexact HP_5
  iintro ⟨HO_26, HS_5⟩
  ihave HGf_1 := (Gh_free m c 1 5) $$ HGh_1_5
  iapply (step_copy m K c 1 3 (by decide) rfl (off_7 c) rfl) $$ [HC_1_3 HGf_1 HX_7]
  · isplitr; · iexact HI
    isplitl [HC_1_3]; · iexact HC_1_3
    isplitl [HGf_1]; · iexact HGf_1
    iexact HX_7
  iintro HK_1_3
  iapply (wait_copied m K c 0 3 6 rfl (by decide) 26 (by decide) rfl) $$ [HO_26 HK_0_3]
  · isplitr; · iexact HI
    isplitl [HO_26]; · iexact HO_26
    iexact HK_0_3
  iintro ⟨HO_26, HC_0_4, HGh_0_6, HX_6⟩
  iapply (step_load m c 0 6 rfl) $$ HGh_0_6
  iintro %v6 ⟨%hv6, HGh_0_6⟩
  rw [wp_ret]; imodintro
  iapply Hk
  isplitr; · ipureintro; exact narrow_read m c 6 hv6
  isplitl [HS_5]; · iexact HS_5
  isplitl [HK_1_3]; · iexact HK_1_3
  isplitl [HO_26]; · iexact HO_26
  isplitl [HC_0_4]; · iexact HC_0_4
  isplitl [HX_6]; · iexact HX_6
  iexact HGh_0_6

theorem part10 {arg1 : Memref sig .tc .smem S2 .i32} {harg1 : arg1.IsWhole} (v2 : BitVec 32) (v8 : BitVec 32) (hw : k0_chk1 c 1#32 0#32) (v12 : BitVec 32) (v240 : FVec F S1x128x2048 .bf16) (hin : v240 = nar m c (chunk 6 c))
    {Qα : FVec F S1x128x2048 .f32 → sProp 𝕄} :
    iprop(Inv m K ∗ Sf c 6 ∗ OW c 26 ∗ Tr c 6 ∗ Gh m c 0 6 ∗ Cp c 0 4 ∗ xP m c (chunk 8 c) ∗ Cf c 1 3)
      ⊢ iprop((∀ a, (⌜a = (xSl (chunk 7 c)).view.read (Elt F) (X m c)⌝ ∗ Sd c 6 ∗ Cf c 0 4 ∗ OW c 25 ∗ Cp c 1 4 ∗ xP m c (chunk 7 c) ∗ Gh m c 1 7) -∗ Qα a)
        -∗ wp frame (wpE (defs₀ (F := F)) 𝒱₀ (c : Thread nD τ) none) Set.univ (k0_part10 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12 v240) Qα) := by
  simp only [k0_part10_eq_skeleton]; unfold k0_part10_skel
  simp only [Prog.lift, Prog.bind_op, Prog.bind_ret, Prog.pure_eq_ret]
  iintro ⟨#HI, HF_6, HO_26, HT_6, HGh_0_6, HC_0_4, HX_8, HK_1_3⟩ Hk
  iapply (step_dead c 6 rfl) $$ HF_6
  iintro %w6 HF_6
  iapply (put m c 6 6 rfl (by decide) (narrow_whole m c 6 hin) rfl) $$ HF_6
  iintro HP_6
  iapply (step_direct m K c 6 (by decide) 25 rfl rfl (off_6 c) (dev_10 c hw) rfl rfl) $$ [HO_26 HT_6 HP_6]
  · isplitr; · iexact HI
    isplitl [HO_26]; · iexact HO_26
    isplitl [HT_6]; · iexact HT_6
    iexact HP_6
  iintro ⟨HO_25, HS_6⟩
  ihave HGf_0 := (Gh_free m c 0 6) $$ HGh_0_6
  iapply (step_copy m K c 0 4 (by decide) rfl (off_8 c) rfl) $$ [HC_0_4 HGf_0 HX_8]
  · isplitr; · iexact HI
    isplitl [HC_0_4]; · iexact HC_0_4
    isplitl [HGf_0]; · iexact HGf_0
    iexact HX_8
  iintro HK_0_4
  iapply (wait_copied m K c 1 3 7 rfl (by decide) 25 (by decide) rfl) $$ [HO_25 HK_1_3]
  · isplitr; · iexact HI
    isplitl [HO_25]; · iexact HO_25
    iexact HK_1_3
  iintro ⟨HO_25, HC_1_4, HGh_1_7, HX_7⟩
  iapply (step_load m c 1 7 rfl) $$ HGh_1_7
  iintro %v7 ⟨%hv7, HGh_1_7⟩
  rw [wp_ret]; imodintro
  iapply Hk
  isplitr; · ipureintro; exact hv7
  isplitl [HS_6]; · iexact HS_6
  isplitl [HK_0_4]; · iexact HK_0_4
  isplitl [HO_25]; · iexact HO_25
  isplitl [HC_1_4]; · iexact HC_1_4
  isplitl [HX_7]; · iexact HX_7
  iexact HGh_1_7

theorem part11 {arg1 : Memref sig .tc .smem S2 .i32} {harg1 : arg1.IsWhole} (v2 : BitVec 32) (v8 : BitVec 32) (hw : k0_chk1 c 1#32 0#32) (v12 : BitVec 32) (v267 : FVec F S1x128x2048 .f32) (hin : v267 = (xSl (chunk 7 c)).view.read (Elt F) (X m c))
    {Qα : PUnit → sProp 𝕄} :
    iprop(Inv m K ∗ Sf c 7 ∗ OW c 25 ∗ Tr c 7 ∗ Gh m c 1 7 ∗ Cp c 1 4 ∗ xP m c (chunk 9 c) ∗ Cf c 0 4)
      ⊢ iprop(((Sd c 7 ∗ Cf c 1 4 ∗ OW c 24 ∗ Cp c 0 5 ∗ Gh m c 0 8 ∗ xP m c (chunk 8 c)) -∗ Qα ⟨⟩)
        -∗ wp frame (wpE (defs₀ (F := F)) 𝒱₀ (c : Thread nD τ) none) Set.univ (k0_part11 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12 v267) Qα) := by
  simp only [k0_part11_eq_skeleton]; unfold k0_part11_skel
  simp only [Prog.lift, Prog.bind_op, Prog.bind_ret, Prog.pure_eq_ret]
  iintro ⟨#HI, HF_7, HO_25, HT_7, HGh_1_7, HC_1_4, HX_9, HK_0_4⟩ Hk
  iapply (step_dead c 7 rfl) $$ HF_7
  iintro %w7 HF_7
  iapply (put m c 7 7 rfl (by decide) (narrow_late m c 7 hin) rfl) $$ HF_7
  iintro HP_7
  iapply (step_direct m K c 7 (by decide) 24 rfl rfl (off_7 c) (dev_11 c hw) rfl rfl) $$ [HO_25 HT_7 HP_7]
  · isplitr; · iexact HI
    isplitl [HO_25]; · iexact HO_25
    isplitl [HT_7]; · iexact HT_7
    iexact HP_7
  iintro ⟨HO_24, HS_7⟩
  ihave HGf_1 := (Gh_free m c 1 7) $$ HGh_1_7
  iapply (step_copy m K c 1 4 (by decide) rfl (off_9 c) rfl) $$ [HC_1_4 HGf_1 HX_9]
  · isplitr; · iexact HI
    isplitl [HC_1_4]; · iexact HC_1_4
    isplitl [HGf_1]; · iexact HGf_1
    iexact HX_9
  iintro HK_1_4
  iapply (wait_copied m K c 0 4 8 rfl (by decide) 24 (by decide) rfl) $$ [HO_24 HK_0_4]
  · isplitr; · iexact HI
    isplitl [HO_24]; · iexact HO_24
    iexact HK_0_4
  iintro ⟨HO_24, HC_0_5, HGh_0_8, HX_8⟩
  rw [wp_ret]; imodintro
  iapply Hk
  isplitl [HS_7]; · iexact HS_7
  isplitl [HK_1_4]; · iexact HK_1_4
  isplitl [HO_24]; · iexact HO_24
  isplitl [HC_0_5]; · iexact HC_0_5
  isplitl [HGh_0_8]; · iexact HGh_0_8
  iexact HX_8

theorem part12 {arg1 : Memref sig .tc .smem S2 .i32} {harg1 : arg1.IsWhole} (v2 : BitVec 32) (v8 : BitVec 32) (hw : k0_chk1 c 1#32 0#32) (v12 : BitVec 32)
    {Qα : (Σ' (v319 : FVec F S1x128x2048 .bf16), Vec F S1x128x2048 .bf16) → sProp 𝕄} :
    iprop(Inv m K ∗ Gh m c 0 8 ∗ Sf c 8 ∗ OW c 24 ∗ Tr c 8 ∗ Cf c 1 4 ∗ Sf c 9)
      ⊢ iprop((∀ a, (⌜a.1 = nar m c (chunk 9 c)⌝ ∗ Gh m c 0 8 ∗ Sd c 8 ∗ OW c 23 ∗ Cp c 1 5 ∗ xP m c (chunk 9 c) ∗ Gh m c 1 9 ∗ Sf c 9) -∗ Qα a)
        -∗ wp frame (wpE (defs₀ (F := F)) 𝒱₀ (c : Thread nD τ) none) Set.univ (k0_part12 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12) Qα) := by
  simp only [k0_part12_eq_skeleton]; unfold k0_part12_skel
  simp only [Prog.lift, Prog.bind_op, Prog.bind_ret, Prog.pure_eq_ret]
  iintro ⟨#HI, HGh_0_8, HF_8, HO_24, HT_8, HK_1_4, HF_9⟩ Hk
  iapply (step_load m c 0 8 rfl) $$ HGh_0_8
  iintro %v8 ⟨%hv8, HGh_0_8⟩
  iapply (step_dead c 8 rfl) $$ HF_8
  iintro %w8 HF_8
  iapply (put m c 8 8 rfl (by decide) (narrow_load m c 8 hv8) rfl) $$ HF_8
  iintro HP_8
  iapply (step_direct m K c 8 (by decide) 23 rfl rfl (off_8 c) (dev_12 c hw) rfl rfl) $$ [HO_24 HT_8 HP_8]
  · isplitr; · iexact HI
    isplitl [HO_24]; · iexact HO_24
    isplitl [HT_8]; · iexact HT_8
    iexact HP_8
  iintro ⟨HO_23, HS_8⟩
  iapply (wait_copied m K c 1 4 9 rfl (by decide) 23 (by decide) rfl) $$ [HO_23 HK_1_4]
  · isplitr; · iexact HI
    isplitl [HO_23]; · iexact HO_23
    iexact HK_1_4
  iintro ⟨HO_23, HC_1_5, HGh_1_9, HX_9⟩
  iapply (step_load m c 1 9 rfl) $$ HGh_1_9
  iintro %v9 ⟨%hv9, HGh_1_9⟩
  iapply (step_dead c 9 rfl) $$ HF_9
  iintro %w9 HF_9
  rw [wp_ret]; imodintro
  iapply Hk
  isplitr; · ipureintro; exact narrow_read m c 9 hv9
  isplitl [HGh_0_8]; · iexact HGh_0_8
  isplitl [HS_8]; · iexact HS_8
  isplitl [HO_23]; · iexact HO_23
  isplitl [HC_1_5]; · iexact HC_1_5
  isplitl [HX_9]; · iexact HX_9
  isplitl [HGh_1_9]; · iexact HGh_1_9
  iexact HF_9

theorem part13 {arg1 : Memref sig .tc .smem S2 .i32} {harg1 : arg1.IsWhole} (v2 : BitVec 32) (v8 : BitVec 32) (hw : k0_chk1 c 1#32 0#32) (v12 : BitVec 32) (v319 : FVec F S1x128x2048 .bf16) (v320 : Vec F S1x128x2048 .bf16) (hin : v319 = nar m c (chunk 9 c))
    {Qα : PUnit → sProp 𝕄} :
    iprop(Inv m K ∗ Sf c 9 ∗ OW c 23 ∗ Tr c 9 ∗ Sd c 0)
      ⊢ iprop(((Sd c 9 ∗ OW c 22 ∗ Zs c 0 ∗ sendPay m c 0) -∗ Qα ⟨⟩)
        -∗ wp frame (wpE (defs₀ (F := F)) 𝒱₀ (c : Thread nD τ) none) Set.univ (k0_part13 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v8 1#32 0#32 hw v12 v319 v320) Qα) := by
  simp only [k0_part13_eq_skeleton]; unfold k0_part13_skel
  simp only [Prog.lift, Prog.bind_op, Prog.bind_ret, Prog.pure_eq_ret]
  iintro ⟨#HI, HF_9, HO_23, HT_9, HS_0⟩ Hk
  iapply (put m c 9 9 rfl (by decide) (narrow_whole m c 9 hin) rfl) $$ HF_9
  iintro HP_9
  iapply (step_direct m K c 9 (by decide) 22 rfl rfl (off_9 c) (dev_13 c hw) rfl rfl) $$ [HO_23 HT_9 HP_9]
  · isplitr; · iexact HI
    isplitl [HO_23]; · iexact HO_23
    isplitl [HT_9]; · iexact HT_9
    iexact HP_9
  iintro ⟨HO_22, HS_9⟩
  iapply (wait_left m K c 0 22 (by decide) rfl) $$ [HO_22 HS_0]
  · isplitr; · iexact HI
    isplitl [HO_22]; · iexact HO_22
    iexact HS_0
  iintro ⟨HO_22, HZs_0, HP_0⟩
  rw [wp_ret]; imodintro
  iapply Hk
  isplitl [HS_9]; · iexact HS_9
  isplitl [HO_22]; · iexact HO_22
  isplitl [HZs_0]; · iexact HZs_0
  iexact HP_0

theorem part14 {arg1 : Memref sig .tc .smem S2 .i32} {harg1 : arg1.IsWhole} (v2 : BitVec 32) (v5 : BitVec 32) (v8 : BitVec 32) (v15 : BitVec 32) (v24 : BitVec 32) (v25 : BitVec 32)
    {Qα : PUnit → sProp 𝕄} :
    iprop(Inv m K ∗ OW c 22 ∗ Rx c 0 ∗ Tr c 10 ∗ Tr c 11)
      ⊢ iprop(((Zr c 0 ∗ Sd c 10 ∗ OW c 20 ∗ Sd c 11) -∗ Qα ⟨⟩)
        -∗ wp frame (wpE (defs₀ (F := F)) 𝒱₀ (c : Thread nD τ) none) Set.univ (k0_part14 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v15 v24 v25) Qα) := by
  simp only [k0_part14_eq_skeleton]; unfold k0_part14_skel
  simp only [Prog.lift, Prog.bind_op, Prog.bind_ret, Prog.pure_eq_ret]
  iintro ⟨#HI, HO_22, HR_0, HT_10, HT_11⟩ Hk
  iapply (wait_arrived m K c 0 22 (by decide) (by decide) rfl) $$ [HO_22 HR_0]
  · isplitr; · iexact HI
    isplitl [HO_22]; · iexact HO_22
    iexact HR_0
  iintro ⟨HO_22, HZr_0, HA_0⟩
  ihave Hh := (Entails.of_eq (halves m c 0 10 11 (by decide))) $$ HA_0
  icases Hh with ⟨HP_10, HP_11⟩
  iapply (step_relay m K c 10 (by decide) 21 rfl (off_10 c) (dev_14 c) rfl rfl) $$ [HO_22 HT_10 HP_10]
  · isplitr; · iexact HI
    isplitl [HO_22]; · iexact HO_22
    isplitl [HT_10]; · iexact HT_10
    iexact HP_10
  iintro ⟨HO_21, HS_10⟩
  iapply (step_relay m K c 11 (by decide) 20 rfl (off_11 c) (dev_15 c) rfl rfl) $$ [HO_21 HT_11 HP_11]
  · isplitr; · iexact HI
    isplitl [HO_21]; · iexact HO_21
    isplitl [HT_11]; · iexact HT_11
    iexact HP_11
  iintro ⟨HO_20, HS_11⟩
  rw [wp_ret]; imodintro
  iapply Hk
  isplitl [HZr_0]; · iexact HZr_0
  isplitl [HS_10]; · iexact HS_10
  isplitl [HO_20]; · iexact HO_20
  iexact HS_11

end Cert.Swap
-- ==== Proof.PartsC.lean ====
/-
The first relays: the parts of the kernel's body one by one, each with what it takes and what it leaves.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem part15 {arg1 : Memref sig .tc .smem S2 .i32} {harg1 : arg1.IsWhole} (v2 : BitVec 32) (v5 : BitVec 32) (v8 : BitVec 32) (v12 : BitVec 32) (v15 : BitVec 32) (v24 : BitVec 32)
    {Qα : (Σ' (v404 : BitVec 32), BitVec 32) → sProp 𝕄} :
    iprop(Inv m K ∗ OW c 20 ∗ Sd c 1 ∗ Rx c 1 ∗ Tr c 12)
      ⊢ iprop((∀ a, (Zs c 1 ∗ sendPay m c 1 ∗ Zr c 1 ∗ sendPay m c 13 ∗ OW c 19 ∗ Sd c 12) -∗ Qα a)
        -∗ wp frame (wpE (defs₀ (F := F)) 𝒱₀ (c : Thread nD τ) none) Set.univ (k0_part15 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v15 v24) Qα) := by
  simp only [k0_part15_eq_skeleton]; unfold k0_part15_skel
  simp only [Prog.lift, Prog.bind_op, Prog.bind_ret, Prog.pure_eq_ret]
  iintro ⟨#HI, HO_20, HS_1, HR_1, HT_12⟩ Hk
  iapply (wait_left m K c 1 20 (by decide) rfl) $$ [HO_20 HS_1]
  · isplitr; · iexact HI
    isplitl [HO_20]; · iexact HO_20
    iexact HS_1
  iintro ⟨HO_20, HZs_1, HP_1⟩
  iapply (wait_arrived m K c 1 20 (by decide) (by decide) rfl) $$ [HO_20 HR_1]
  · isplitr; · iexact HI
    isplitl [HO_20]; · iexact HO_20
    iexact HR_1
  iintro ⟨HO_20, HZr_1, HA_1⟩
  ihave Hh := (Entails.of_eq (halves m c 1 12 13 (by decide))) $$ HA_1
  icases Hh with ⟨HP_12, HP_13⟩
  iapply (step_relay m K c 12 (by decide) 19 rfl (off_12 c) (dev_16 c) rfl rfl) $$ [HO_20 HT_12 HP_12]
  · isplitr; · iexact HI
    isplitl [HO_20]; · iexact HO_20
    isplitl [HT_12]; · iexact HT_12
    iexact HP_12
  iintro ⟨HO_19, HS_12⟩
  rw [wp_ret]; imodintro
  iapply Hk
  isplitl [HZs_1]; · iexact HZs_1
  isplitl [HP_1]; · iexact HP_1
  isplitl [HZr_1]; · iexact HZr_1
  isplitl [HP_13]; · iexact HP_13
  isplitl [HO_19]; · iexact HO_19
  iexact HS_12

theorem part16 {arg1 : Memref sig .tc .smem S2 .i32} {harg1 : arg1.IsWhole} (v2 : BitVec 32) (v5 : BitVec 32) (v8 : BitVec 32) (v12 : BitVec 32) (v15 : BitVec 32) (v24 : BitVec 32) (v25 : BitVec 32) (v404 : BitVec 32) (c1_i32_410 : BitVec 32)
    {Qα : (Σ' (v431 : BitVec 32), BitVec 32) → sProp 𝕄} :
    iprop(Inv m K ∗ OW c 19 ∗ Tr c 13 ∗ sendPay m c 13 ∗ Sd c 2 ∗ Rx c 2)
      ⊢ iprop((∀ a, (Sd c 13 ∗ Zs c 2 ∗ sendPay m c 2 ∗ OW c 18 ∗ Zr c 2 ∗ sendPay m c 14 ∗ sendPay m c 15) -∗ Qα a)
        -∗ wp frame (wpE (defs₀ (F := F)) 𝒱₀ (c : Thread nD τ) none) Set.univ (k0_part16 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v15 v24 v25 v404 c1_i32_410) Qα) := by
  simp only [k0_part16_eq_skeleton]; unfold k0_part16_skel
  simp only [Prog.lift, Prog.bind_op, Prog.bind_ret, Prog.pure_eq_ret]
  iintro ⟨#HI, HO_19, HT_13, HP_13, HS_2, HR_2⟩ Hk
  iapply (step_relay m K c 13 (by decide) 18 rfl (off_13 c) (dev_17 c) rfl rfl) $$ [HO_19 HT_13 HP_13]
  · isplitr; · iexact HI
    isplitl [HO_19]; · iexact HO_19
    isplitl [HT_13]; · iexact HT_13
    iexact HP_13
  iintro ⟨HO_18, HS_13⟩
  iapply (wait_left m K c 2 18 (by decide) rfl) $$ [HO_18 HS_2]
  · isplitr; · iexact HI
    isplitl [HO_18]; · iexact HO_18
    iexact HS_2
  iintro ⟨HO_18, HZs_2, HP_2⟩
  iapply (wait_arrived m K c 2 18 (by decide) (by decide) rfl) $$ [HO_18 HR_2]
  · isplitr; · iexact HI
    isplitl [HO_18]; · iexact HO_18
    iexact HR_2
  iintro ⟨HO_18, HZr_2, HA_2⟩
  ihave Hh := (Entails.of_eq (halves m c 2 14 15 (by decide))) $$ HA_2
  icases Hh with ⟨HP_14, HP_15⟩
  rw [wp_ret]; imodintro
  iapply Hk
  isplitl [HS_13]; · iexact HS_13
  isplitl [HZs_2]; · iexact HZs_2
  isplitl [HP_2]; · iexact HP_2
  isplitl [HO_18]; · iexact HO_18
  isplitl [HZr_2]; · iexact HZr_2
  isplitl [HP_14]; · iexact HP_14
  iexact HP_15

theorem part17 {arg1 : Memref sig .tc .smem S2 .i32} {harg1 : arg1.IsWhole} (v2 : BitVec 32) (v5 : BitVec 32) (v8 : BitVec 32) (v12 : BitVec 32) (v25 : BitVec 32) (v431 : BitVec 32) (c1_i32_440 : BitVec 32)
    {Qα : (Σ' (v459 : BitVec 32), BitVec 32) → sProp 𝕄} :
    iprop(Inv m K ∗ OW c 18 ∗ Tr c 14 ∗ sendPay m c 14 ∗ Tr c 15 ∗ sendPay m c 15 ∗ Sd c 3)
      ⊢ iprop((∀ a, (Sd c 14 ∗ Sd c 15 ∗ OW c 16 ∗ Zs c 3 ∗ sendPay m c 3) -∗ Qα a)
        -∗ wp frame (wpE (defs₀ (F := F)) 𝒱₀ (c : Thread nD τ) none) Set.univ (k0_part17 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v25 v431 c1_i32_440) Qα) := by
  simp only [k0_part17_eq_skeleton]; unfold k0_part17_skel
  simp only [Prog.lift, Prog.bind_op, Prog.bind_ret, Prog.pure_eq_ret]
  iintro ⟨#HI, HO_18, HT_14, HP_14, HT_15, HP_15, HS_3⟩ Hk
  iapply (step_relay m K c 14 (by decide) 17 rfl (off_14 c) (dev_18 c) rfl rfl) $$ [HO_18 HT_14 HP_14]
  · isplitr; · iexact HI
    isplitl [HO_18]; · iexact HO_18
    isplitl [HT_14]; · iexact HT_14
    iexact HP_14
  iintro ⟨HO_17, HS_14⟩
  iapply (step_relay m K c 15 (by decide) 16 rfl (off_15 c) (dev_19 c) rfl rfl) $$ [HO_17 HT_15 HP_15]
  · isplitr; · iexact HI
    isplitl [HO_17]; · iexact HO_17
    isplitl [HT_15]; · iexact HT_15
    iexact HP_15
  iintro ⟨HO_16, HS_15⟩
  iapply (wait_left m K c 3 16 (by decide) rfl) $$ [HO_16 HS_3]
  · isplitr; · iexact HI
    isplitl [HO_16]; · iexact HO_16
    iexact HS_3
  iintro ⟨HO_16, HZs_3, HP_3⟩
  rw [wp_ret]; imodintro
  iapply Hk
  isplitl [HS_14]; · iexact HS_14
  isplitl [HS_15]; · iexact HS_15
  isplitl [HO_16]; · iexact HO_16
  isplitl [HZs_3]; · iexact HZs_3
  iexact HP_3

theorem part18 {arg1 : Memref sig .tc .smem S2 .i32} {harg1 : arg1.IsWhole} (v2 : BitVec 32) (v5 : BitVec 32) (v8 : BitVec 32) (v15 : BitVec 32) (v24 : BitVec 32) (v25 : BitVec 32) (v459 : BitVec 32) (v460 : BitVec 32)
    {Qα : PUnit → sProp 𝕄} :
    iprop(Inv m K ∗ OW c 16 ∗ Rx c 3 ∗ Tr c 16 ∗ Tr c 17)
      ⊢ iprop(((Zr c 3 ∗ Sd c 16 ∗ OW c 14 ∗ Sd c 17) -∗ Qα ⟨⟩)
        -∗ wp frame (wpE (defs₀ (F := F)) 𝒱₀ (c : Thread nD τ) none) Set.univ (k0_part18 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v15 v24 v25 v459 v460) Qα) := by
  simp only [k0_part18_eq_skeleton]; unfold k0_part18_skel
  simp only [Prog.lift, Prog.bind_op, Prog.bind_ret, Prog.pure_eq_ret]
  iintro ⟨#HI, HO_16, HR_3, HT_16, HT_17⟩ Hk
  iapply (wait_arrived m K c 3 16 (by decide) (by decide) rfl) $$ [HO_16 HR_3]
  · isplitr; · iexact HI
    isplitl [HO_16]; · iexact HO_16
    iexact HR_3
  iintro ⟨HO_16, HZr_3, HA_3⟩
  ihave Hh := (Entails.of_eq (halves m c 3 16 17 (by decide))) $$ HA_3
  icases Hh with ⟨HP_16, HP_17⟩
  iapply (step_relay m K c 16 (by decide) 15 rfl (off_16 c) (dev_20 c) rfl rfl) $$ [HO_16 HT_16 HP_16]
  · isplitr; · iexact HI
    isplitl [HO_16]; · iexact HO_16
    isplitl [HT_16]; · iexact HT_16
    iexact HP_16
  iintro ⟨HO_15, HS_16⟩
  iapply (step_relay m K c 17 (by decide) 14 rfl (off_17 c) (dev_21 c) rfl rfl) $$ [HO_15 HT_17 HP_17]
  · isplitr; · iexact HI
    isplitl [HO_15]; · iexact HO_15
    isplitl [HT_17]; · iexact HT_17
    iexact HP_17
  iintro ⟨HO_14, HS_17⟩
  rw [wp_ret]; imodintro
  iapply Hk
  isplitl [HZr_3]; · iexact HZr_3
  isplitl [HS_16]; · iexact HS_16
  isplitl [HO_14]; · iexact HO_14
  iexact HS_17

theorem part19 {arg1 : Memref sig .tc .smem S2 .i32} {harg1 : arg1.IsWhole} (v2 : BitVec 32) (v5 : BitVec 32) (v8 : BitVec 32) (v12 : BitVec 32) (v15 : BitVec 32) (v24 : BitVec 32)
    {Qα : PUnit → sProp 𝕄} :
    iprop(Inv m K ∗ OW c 14 ∗ Sd c 4 ∗ Rx c 4 ∗ Tr c 18)
      ⊢ iprop(((Zs c 4 ∗ sendPay m c 4 ∗ Zr c 4 ∗ sendPay m c 19 ∗ OW c 13 ∗ Sd c 18) -∗ Qα ⟨⟩)
        -∗ wp frame (wpE (defs₀ (F := F)) 𝒱₀ (c : Thread nD τ) none) Set.univ (k0_part19 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v15 v24) Qα) := by
  simp only [k0_part19_eq_skeleton]; unfold k0_part19_skel
  simp only [Prog.lift, Prog.bind_op, Prog.bind_ret, Prog.pure_eq_ret]
  iintro ⟨#HI, HO_14, HS_4, HR_4, HT_18⟩ Hk
  iapply (wait_left m K c 4 14 (by decide) rfl) $$ [HO_14 HS_4]
  · isplitr; · iexact HI
    isplitl [HO_14]; · iexact HO_14
    iexact HS_4
  iintro ⟨HO_14, HZs_4, HP_4⟩
  iapply (wait_arrived m K c 4 14 (by decide) (by decide) rfl) $$ [HO_14 HR_4]
  · isplitr; · iexact HI
    isplitl [HO_14]; · iexact HO_14
    iexact HR_4
  iintro ⟨HO_14, HZr_4, HA_4⟩
  ihave Hh := (Entails.of_eq (halves m c 4 18 19 (by decide))) $$ HA_4
  icases Hh with ⟨HP_18, HP_19⟩
  iapply (step_relay m K c 18 (by decide) 13 rfl (off_18 c) (dev_22 c) rfl rfl) $$ [HO_14 HT_18 HP_18]
  · isplitr; · iexact HI
    isplitl [HO_14]; · iexact HO_14
    isplitl [HT_18]; · iexact HT_18
    iexact HP_18
  iintro ⟨HO_13, HS_18⟩
  rw [wp_ret]; imodintro
  iapply Hk
  isplitl [HZs_4]; · iexact HZs_4
  isplitl [HP_4]; · iexact HP_4
  isplitl [HZr_4]; · iexact HZr_4
  isplitl [HP_19]; · iexact HP_19
  isplitl [HO_13]; · iexact HO_13
  iexact HS_18

theorem part20 {arg1 : Memref sig .tc .smem S2 .i32} {harg1 : arg1.IsWhole} (v2 : BitVec 32) (v5 : BitVec 32) (v8 : BitVec 32) (v12 : BitVec 32) (v15 : BitVec 32) (v25 : BitVec 32)
    {Qα : PUnit → sProp 𝕄} :
    iprop(Inv m K ∗ OW c 13 ∗ Tr c 19 ∗ sendPay m c 19 ∗ Sd c 5 ∗ Rx c 5)
      ⊢ iprop(((Sd c 19 ∗ Zs c 5 ∗ sendPay m c 5 ∗ OW c 12 ∗ Zr c 5 ∗ sendPay m c 20 ∗ sendPay m c 21) -∗ Qα ⟨⟩)
        -∗ wp frame (wpE (defs₀ (F := F)) 𝒱₀ (c : Thread nD τ) none) Set.univ (k0_part20 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v15 v25) Qα) := by
  simp only [k0_part20_eq_skeleton]; unfold k0_part20_skel
  simp only [Prog.lift, Prog.bind_op, Prog.bind_ret, Prog.pure_eq_ret]
  iintro ⟨#HI, HO_13, HT_19, HP_19, HS_5, HR_5⟩ Hk
  iapply (step_relay m K c 19 (by decide) 12 rfl (off_19 c) (dev_23 c) rfl rfl) $$ [HO_13 HT_19 HP_19]
  · isplitr; · iexact HI
    isplitl [HO_13]; · iexact HO_13
    isplitl [HT_19]; · iexact HT_19
    iexact HP_19
  iintro ⟨HO_12, HS_19⟩
  iapply (wait_left m K c 5 12 (by decide) rfl) $$ [HO_12 HS_5]
  · isplitr; · iexact HI
    isplitl [HO_12]; · iexact HO_12
    iexact HS_5
  iintro ⟨HO_12, HZs_5, HP_5⟩
  iapply (wait_arrived m K c 5 12 (by decide) (by decide) rfl) $$ [HO_12 HR_5]
  · isplitr; · iexact HI
    isplitl [HO_12]; · iexact HO_12
    iexact HR_5
  iintro ⟨HO_12, HZr_5, HA_5⟩
  ihave Hh := (Entails.of_eq (halves m c 5 20 21 (by decide))) $$ HA_5
  icases Hh with ⟨HP_20, HP_21⟩
  rw [wp_ret]; imodintro
  iapply Hk
  isplitl [HS_19]; · iexact HS_19
  isplitl [HZs_5]; · iexact HZs_5
  isplitl [HP_5]; · iexact HP_5
  isplitl [HO_12]; · iexact HO_12
  isplitl [HZr_5]; · iexact HZr_5
  isplitl [HP_20]; · iexact HP_20
  iexact HP_21

theorem part21 {arg1 : Memref sig .tc .smem S2 .i32} {harg1 : arg1.IsWhole} (v2 : BitVec 32) (v5 : BitVec 32) (v8 : BitVec 32) (v24 : BitVec 32) (v25 : BitVec 32)
    {Qα : PUnit → sProp 𝕄} :
    iprop(Inv m K ∗ OW c 12 ∗ Tr c 20 ∗ sendPay m c 20 ∗ Tr c 21 ∗ sendPay m c 21 ∗ Sd c 6)
      ⊢ iprop(((Sd c 20 ∗ Sd c 21 ∗ OW c 10 ∗ Zs c 6 ∗ sendPay m c 6) -∗ Qα ⟨⟩)
        -∗ wp frame (wpE (defs₀ (F := F)) 𝒱₀ (c : Thread nD τ) none) Set.univ (k0_part21 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v24 v25) Qα) := by
  simp only [k0_part21_eq_skeleton]; unfold k0_part21_skel
  simp only [Prog.lift, Prog.bind_op, Prog.bind_ret, Prog.pure_eq_ret]
  iintro ⟨#HI, HO_12, HT_20, HP_20, HT_21, HP_21, HS_6⟩ Hk
  iapply (step_relay m K c 20 (by decide) 11 rfl (off_20 c) (dev_24 c) rfl rfl) $$ [HO_12 HT_20 HP_20]
  · isplitr; · iexact HI
    isplitl [HO_12]; · iexact HO_12
    isplitl [HT_20]; · iexact HT_20
    iexact HP_20
  iintro ⟨HO_11, HS_20⟩
  iapply (step_relay m K c 21 (by decide) 10 rfl (off_21 c) (dev_25 c) rfl rfl) $$ [HO_11 HT_21 HP_21]
  · isplitr; · iexact HI
    isplitl [HO_11]; · iexact HO_11
    isplitl [HT_21]; · iexact HT_21
    iexact HP_21
  iintro ⟨HO_10, HS_21⟩
  iapply (wait_left m K c 6 10 (by decide) rfl) $$ [HO_10 HS_6]
  · isplitr; · iexact HI
    isplitl [HO_10]; · iexact HO_10
    iexact HS_6
  iintro ⟨HO_10, HZs_6, HP_6⟩
  rw [wp_ret]; imodintro
  iapply Hk
  isplitl [HS_20]; · iexact HS_20
  isplitl [HS_21]; · iexact HS_21
  isplitl [HO_10]; · iexact HO_10
  isplitl [HZs_6]; · iexact HZs_6
  iexact HP_6

theorem part22 {arg1 : Memref sig .tc .smem S2 .i32} {harg1 : arg1.IsWhole} (v2 : BitVec 32) (v5 : BitVec 32) (v8 : BitVec 32) (v12 : BitVec 32) (v15 : BitVec 32) (v24 : BitVec 32) (v25 : BitVec 32)
    {Qα : PUnit → sProp 𝕄} :
    iprop(Inv m K ∗ OW c 10 ∗ Rx c 6 ∗ Tr c 22)
      ⊢ iprop(((Zr c 6 ∗ sendPay m c 23 ∗ OW c 9 ∗ Sd c 22) -∗ Qα ⟨⟩)
        -∗ wp frame (wpE (defs₀ (F := F)) 𝒱₀ (c : Thread nD τ) none) Set.univ (k0_part22 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v15 v24 v25) Qα) := by
  simp only [k0_part22_eq_skeleton]; unfold k0_part22_skel
  simp only [Prog.lift, Prog.bind_op, Prog.bind_ret, Prog.pure_eq_ret]
  iintro ⟨#HI, HO_10, HR_6, HT_22⟩ Hk
  iapply (wait_arrived m K c 6 10 (by decide) (by decide) rfl) $$ [HO_10 HR_6]
  · isplitr; · iexact HI
    isplitl [HO_10]; · iexact HO_10
    iexact HR_6
  iintro ⟨HO_10, HZr_6, HA_6⟩
  ihave Hh := (Entails.of_eq (halves m c 6 22 23 (by decide))) $$ HA_6
  icases Hh with ⟨HP_22, HP_23⟩
  iapply (step_relay m K c 22 (by decide) 9 rfl (off_22 c) (dev_26 c) rfl rfl) $$ [HO_10 HT_22 HP_22]
  · isplitr; · iexact HI
    isplitl [HO_10]; · iexact HO_10
    isplitl [HT_22]; · iexact HT_22
    iexact HP_22
  iintro ⟨HO_9, HS_22⟩
  rw [wp_ret]; imodintro
  iapply Hk
  isplitl [HZr_6]; · iexact HZr_6
  isplitl [HP_23]; · iexact HP_23
  isplitl [HO_9]; · iexact HO_9
  iexact HS_22

theorem part23 {arg1 : Memref sig .tc .smem S2 .i32} {harg1 : arg1.IsWhole} (v2 : BitVec 32) (v5 : BitVec 32) (v8 : BitVec 32) (v23 : BitVec 32) (v24 : BitVec 32) (v25 : BitVec 32)
    {Qα : BitVec 32 → sProp 𝕄} :
    iprop(Inv m K ∗ OW c 9 ∗ Tr c 23 ∗ sendPay m c 23 ∗ Rx c 11 ∗ Tr c 24)
      ⊢ iprop((∀ a, (Sd c 23 ∗ Zr c 11 ∗ OW c 7 ∗ Sd c 24) -∗ Qα a)
        -∗ wp frame (wpE (defs₀ (F := F)) 𝒱₀ (c : Thread nD τ) none) Set.univ (k0_part23 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v23 v24 v25) Qα) := by
  simp only [k0_part23_eq_skeleton]; unfold k0_part23_skel
  simp only [Prog.lift, Prog.bind_op, Prog.bind_ret, Prog.pure_eq_ret]
  iintro ⟨#HI, HO_9, HT_23, HP_23, HR_11, HT_24⟩ Hk
  iapply (step_relay m K c 23 (by decide) 8 rfl (off_23 c) (dev_27 c) rfl rfl) $$ [HO_9 HT_23 HP_23]
  · isplitr; · iexact HI
    isplitl [HO_9]; · iexact HO_9
    isplitl [HT_23]; · iexact HT_23
    iexact HP_23
  iintro ⟨HO_8, HS_23⟩
  iapply (wait_arrived m K c 11 8 (by decide) (by decide) rfl) $$ [HO_8 HR_11]
  · isplitr; · iexact HI
    isplitl [HO_8]; · iexact HO_8
    iexact HR_11
  iintro ⟨HO_8, HZr_11, HA_11⟩
  ihave HP_24 := (Entails.of_eq (show recvPay m c 11 = sendPay m c 24 from pass m c 24 (by decide))) $$ HA_11
  iapply (step_relay m K c 24 (by decide) 7 rfl (off_24 c) (dev_28 c) rfl rfl) $$ [HO_8 HT_24 HP_24]
  · isplitr; · iexact HI
    isplitl [HO_8]; · iexact HO_8
    isplitl [HT_24]; · iexact HT_24
    iexact HP_24
  iintro ⟨HO_7, HS_24⟩
  rw [wp_ret]; imodintro
  iapply Hk
  isplitl [HS_23]; · iexact HS_23
  isplitl [HZr_11]; · iexact HZr_11
  isplitl [HO_7]; · iexact HO_7
  iexact HS_24

end Cert.Swap
-- ==== Proof.PartsD.lean ====
/-
The second relays: the parts of the kernel's body one by one, each with what it takes and what it leaves.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem part24 {arg1 : Memref sig .tc .smem S2 .i32} {harg1 : arg1.IsWhole} (v2 : BitVec 32) (v5 : BitVec 32) (v8 : BitVec 32) (v19 : BitVec 32) (v25 : BitVec 32) (v632 : BitVec 32)
    {Qα : PUnit → sProp 𝕄} :
    iprop(Inv m K ∗ OW c 7 ∗ Rx c 18 ∗ Tr c 25)
      ⊢ iprop(((Zr c 18 ∗ OW c 6 ∗ Sd c 25) -∗ Qα ⟨⟩)
        -∗ wp frame (wpE (defs₀ (F := F)) 𝒱₀ (c : Thread nD τ) none) Set.univ (k0_part24 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v19 v25 v632) Qα) := by
  simp only [k0_part24_eq_skeleton]; unfold k0_part24_skel
  simp only [Prog.lift, Prog.bind_op, Prog.bind_ret, Prog.pure_eq_ret]
  iintro ⟨#HI, HO_7, HR_18, HT_25⟩ Hk
  iapply (wait_arrived m K c 18 7 (by decide) (by decide) rfl) $$ [HO_7 HR_18]
  · isplitr; · iexact HI
    isplitl [HO_7]; · iexact HO_7
    iexact HR_18
  iintro ⟨HO_7, HZr_18, HA_18⟩
  ihave HP_25 := (Entails.of_eq (show recvPay m c 18 = sendPay m c 25 from pass m c 25 (by decide))) $$ HA_18
  iapply (step_relay m K c 25 (by decide) 6 rfl (off_25 c) (dev_29 c) rfl rfl) $$ [HO_7 HT_25 HP_25]
  · isplitr; · iexact HI
    isplitl [HO_7]; · iexact HO_7
    isplitl [HT_25]; · iexact HT_25
    iexact HP_25
  iintro ⟨HO_6, HS_25⟩
  rw [wp_ret]; imodintro
  iapply Hk
  isplitl [HZr_18]; · iexact HZr_18
  isplitl [HO_6]; · iexact HO_6
  iexact HS_25

theorem part25 {arg1 : Memref sig .tc .smem S2 .i32} {harg1 : arg1.IsWhole} (v2 : BitVec 32) (v5 : BitVec 32) (v8 : BitVec 32) (v19 : BitVec 32) (v23 : BitVec 32) (v24 : BitVec 32) (v25 : BitVec 32)
    {Qα : (Σ' (v691 : BitVec 32), BitVec 32) → sProp 𝕄} :
    iprop(Inv m K ∗ OW c 6 ∗ Rx c 13 ∗ Tr c 26 ∗ Rx c 20)
      ⊢ iprop((∀ a, (Zr c 13 ∗ Sd c 26 ∗ OW c 5 ∗ Zr c 20 ∗ recvPay m c 20) -∗ Qα a)
        -∗ wp frame (wpE (defs₀ (F := F)) 𝒱₀ (c : Thread nD τ) none) Set.univ (k0_part25 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v19 v23 v24 v25) Qα) := by
  simp only [k0_part25_eq_skeleton]; unfold k0_part25_skel
  simp only [Prog.lift, Prog.bind_op, Prog.bind_ret, Prog.pure_eq_ret]
  iintro ⟨#HI, HO_6, HR_13, HT_26, HR_20⟩ Hk
  iapply (wait_arrived m K c 13 6 (by decide) (by decide) rfl) $$ [HO_6 HR_13]
  · isplitr; · iexact HI
    isplitl [HO_6]; · iexact HO_6
    iexact HR_13
  iintro ⟨HO_6, HZr_13, HA_13⟩
  ihave HP_26 := (Entails.of_eq (show recvPay m c 13 = sendPay m c 26 from pass m c 26 (by decide))) $$ HA_13
  iapply (step_relay m K c 26 (by decide) 5 rfl (off_26 c) (dev_30 c) rfl rfl) $$ [HO_6 HT_26 HP_26]
  · isplitr; · iexact HI
    isplitl [HO_6]; · iexact HO_6
    isplitl [HT_26]; · iexact HT_26
    iexact HP_26
  iintro ⟨HO_5, HS_26⟩
  iapply (wait_arrived m K c 20 5 (by decide) (by decide) rfl) $$ [HO_5 HR_20]
  · isplitr; · iexact HI
    isplitl [HO_5]; · iexact HO_5
    iexact HR_20
  iintro ⟨HO_5, HZr_20, HA_20⟩
  rw [wp_ret]; imodintro
  iapply Hk
  isplitl [HZr_13]; · iexact HZr_13
  isplitl [HS_26]; · iexact HS_26
  isplitl [HO_5]; · iexact HO_5
  isplitl [HZr_20]; · iexact HZr_20
  iexact HA_20

theorem part26 {arg1 : Memref sig .tc .smem S2 .i32} {harg1 : arg1.IsWhole} (v2 : BitVec 32) (v5 : BitVec 32) (v8 : BitVec 32) (v23 : BitVec 32) (v24 : BitVec 32) (v25 : BitVec 32) (v691 : BitVec 32) (v692 : BitVec 32)
    {Qα : PUnit → sProp 𝕄} :
    iprop(Inv m K ∗ recvPay m c 20 ∗ OW c 5 ∗ Tr c 27 ∗ Rx c 15 ∗ Tr c 28)
      ⊢ iprop(((Sd c 27 ∗ Zr c 15 ∗ OW c 3 ∗ Sd c 28) -∗ Qα ⟨⟩)
        -∗ wp frame (wpE (defs₀ (F := F)) 𝒱₀ (c : Thread nD τ) none) Set.univ (k0_part26 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v23 v24 v25 v691 v692) Qα) := by
  simp only [k0_part26_eq_skeleton]; unfold k0_part26_skel
  simp only [Prog.lift, Prog.bind_op, Prog.bind_ret, Prog.pure_eq_ret]
  iintro ⟨#HI, HA_20, HO_5, HT_27, HR_15, HT_28⟩ Hk
  ihave HP_27 := (Entails.of_eq (show recvPay m c 20 = sendPay m c 27 from pass m c 27 (by decide))) $$ HA_20
  iapply (step_relay m K c 27 (by decide) 4 rfl (off_27 c) (dev_31 c) rfl rfl) $$ [HO_5 HT_27 HP_27]
  · isplitr; · iexact HI
    isplitl [HO_5]; · iexact HO_5
    isplitl [HT_27]; · iexact HT_27
    iexact HP_27
  iintro ⟨HO_4, HS_27⟩
  iapply (wait_arrived m K c 15 4 (by decide) (by decide) rfl) $$ [HO_4 HR_15]
  · isplitr; · iexact HI
    isplitl [HO_4]; · iexact HO_4
    iexact HR_15
  iintro ⟨HO_4, HZr_15, HA_15⟩
  ihave HP_28 := (Entails.of_eq (show recvPay m c 15 = sendPay m c 28 from pass m c 28 (by decide))) $$ HA_15
  iapply (step_relay m K c 28 (by decide) 3 rfl (off_28 c) (dev_32 c) rfl rfl) $$ [HO_4 HT_28 HP_28]
  · isplitr; · iexact HI
    isplitl [HO_4]; · iexact HO_4
    isplitl [HT_28]; · iexact HT_28
    iexact HP_28
  iintro ⟨HO_3, HS_28⟩
  rw [wp_ret]; imodintro
  iapply Hk
  isplitl [HS_27]; · iexact HS_27
  isplitl [HZr_15]; · iexact HZr_15
  isplitl [HO_3]; · iexact HO_3
  iexact HS_28

theorem part27 {arg1 : Memref sig .tc .smem S2 .i32} {harg1 : arg1.IsWhole} (v2 : BitVec 32) (v5 : BitVec 32) (v8 : BitVec 32) (v19 : BitVec 32) (v24 : BitVec 32) (v25 : BitVec 32)
    {Qα : PUnit → sProp 𝕄} :
    iprop(Inv m K ∗ OW c 3 ∗ Rx c 22 ∗ Tr c 29)
      ⊢ iprop(((Zr c 22 ∗ OW c 2 ∗ Sd c 29) -∗ Qα ⟨⟩)
        -∗ wp frame (wpE (defs₀ (F := F)) 𝒱₀ (c : Thread nD τ) none) Set.univ (k0_part27 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v19 v24 v25) Qα) := by
  simp only [k0_part27_eq_skeleton]; unfold k0_part27_skel
  simp only [Prog.lift, Prog.bind_op, Prog.bind_ret, Prog.pure_eq_ret]
  iintro ⟨#HI, HO_3, HR_22, HT_29⟩ Hk
  iapply (wait_arrived m K c 22 3 (by decide) (by decide) rfl) $$ [HO_3 HR_22]
  · isplitr; · iexact HI
    isplitl [HO_3]; · iexact HO_3
    iexact HR_22
  iintro ⟨HO_3, HZr_22, HA_22⟩
  ihave HP_29 := (Entails.of_eq (show recvPay m c 22 = sendPay m c 29 from pass m c 29 (by decide))) $$ HA_22
  iapply (step_relay m K c 29 (by decide) 2 rfl (off_29 c) (dev_33 c) rfl rfl) $$ [HO_3 HT_29 HP_29]
  · isplitr; · iexact HI
    isplitl [HO_3]; · iexact HO_3
    isplitl [HT_29]; · iexact HT_29
    iexact HP_29
  iintro ⟨HO_2, HS_29⟩
  rw [wp_ret]; imodintro
  iapply Hk
  isplitl [HZr_22]; · iexact HZr_22
  isplitl [HO_2]; · iexact HO_2
  iexact HS_29

theorem part28 {arg1 : Memref sig .tc .smem S2 .i32} {harg1 : arg1.IsWhole} (v2 : BitVec 32) (v5 : BitVec 32) (v8 : BitVec 32) (v12 : BitVec 32) (v23 : BitVec 32) (v24 : BitVec 32)
    {Qα : PUnit → sProp 𝕄} :
    iprop(Inv m K ∗ OW c 2 ∗ Rx c 17 ∗ Tr c 30 ∗ Sd c 7)
      ⊢ iprop(((Zr c 17 ∗ Sd c 30 ∗ OW c 1 ∗ Zs c 7 ∗ sendPay m c 7) -∗ Qα ⟨⟩)
        -∗ wp frame (wpE (defs₀ (F := F)) 𝒱₀ (c : Thread nD τ) none) Set.univ (k0_part28 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v23 v24) Qα) := by
  simp only [k0_part28_eq_skeleton]; unfold k0_part28_skel
  simp only [Prog.lift, Prog.bind_op, Prog.bind_ret, Prog.pure_eq_ret]
  iintro ⟨#HI, HO_2, HR_17, HT_30, HS_7⟩ Hk
  iapply (wait_arrived m K c 17 2 (by decide) (by decide) rfl) $$ [HO_2 HR_17]
  · isplitr; · iexact HI
    isplitl [HO_2]; · iexact HO_2
    iexact HR_17
  iintro ⟨HO_2, HZr_17, HA_17⟩
  ihave HP_30 := (Entails.of_eq (show recvPay m c 17 = sendPay m c 30 from pass m c 30 (by decide))) $$ HA_17
  iapply (step_relay m K c 30 (by decide) 1 rfl (off_30 c) (dev_34 c) rfl rfl) $$ [HO_2 HT_30 HP_30]
  · isplitr; · iexact HI
    isplitl [HO_2]; · iexact HO_2
    isplitl [HT_30]; · iexact HT_30
    iexact HP_30
  iintro ⟨HO_1, HS_30⟩
  iapply (wait_left m K c 7 1 (by decide) rfl) $$ [HO_1 HS_7]
  · isplitr; · iexact HI
    isplitl [HO_1]; · iexact HO_1
    iexact HS_7
  iintro ⟨HO_1, HZs_7, HP_7⟩
  rw [wp_ret]; imodintro
  iapply Hk
  isplitl [HZr_17]; · iexact HZr_17
  isplitl [HS_30]; · iexact HS_30
  isplitl [HO_1]; · iexact HO_1
  isplitl [HZs_7]; · iexact HZs_7
  iexact HP_7

theorem part29 {arg1 : Memref sig .tc .smem S2 .i32} {harg1 : arg1.IsWhole} (v2 : BitVec 32) (v5 : BitVec 32) (v8 : BitVec 32) (v12 : BitVec 32) (v19 : BitVec 32) (v25 : BitVec 32)
    {Qα : PUnit → sProp 𝕄} :
    iprop(Inv m K ∗ OW c 1 ∗ Rx c 7 ∗ Tr c 31 ∗ Sd c 8)
      ⊢ iprop(((Zr c 7 ∗ Sd c 31 ∗ OW c 0 ∗ Zs c 8 ∗ sendPay m c 8) -∗ Qα ⟨⟩)
        -∗ wp frame (wpE (defs₀ (F := F)) 𝒱₀ (c : Thread nD τ) none) Set.univ (k0_part29 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v19 v25) Qα) := by
  simp only [k0_part29_eq_skeleton]; unfold k0_part29_skel
  simp only [Prog.lift, Prog.bind_op, Prog.bind_ret, Prog.pure_eq_ret]
  iintro ⟨#HI, HO_1, HR_7, HT_31, HS_8⟩ Hk
  iapply (wait_arrived m K c 7 1 (by decide) (by decide) rfl) $$ [HO_1 HR_7]
  · isplitr; · iexact HI
    isplitl [HO_1]; · iexact HO_1
    iexact HR_7
  iintro ⟨HO_1, HZr_7, HA_7⟩
  ihave HP_31 := (Entails.of_eq (show recvPay m c 7 = sendPay m c 31 from pass m c 31 (by decide))) $$ HA_7
  iapply (step_relay m K c 31 (by decide) 0 rfl (off_31 c) (dev_35 c) rfl rfl) $$ [HO_1 HT_31 HP_31]
  · isplitr; · iexact HI
    isplitl [HO_1]; · iexact HO_1
    isplitl [HT_31]; · iexact HT_31
    iexact HP_31
  iintro ⟨HO_0, HS_31⟩
  iapply (wait_left m K c 8 0 (by decide) rfl) $$ [HO_0 HS_8]
  · isplitr; · iexact HI
    isplitl [HO_0]; · iexact HO_0
    iexact HS_8
  iintro ⟨HO_0, HZs_8, HP_8⟩
  rw [wp_ret]; imodintro
  iapply Hk
  isplitl [HZr_7]; · iexact HZr_7
  isplitl [HS_31]; · iexact HS_31
  isplitl [HO_0]; · iexact HO_0
  isplitl [HZs_8]; · iexact HZs_8
  iexact HP_8

theorem part30 {arg1 : Memref sig .tc .smem S2 .i32} {harg1 : arg1.IsWhole} (v2 : BitVec 32) (v5 : BitVec 32) (v8 : BitVec 32) (v12 : BitVec 32) (v24 : BitVec 32)
    {Qα : PUnit → sProp 𝕄} :
    iprop(Inv m K ∗ OW c 0 ∗ Rx c 8 ∗ Sd c 9 ∗ Rx c 9)
      ⊢ iprop(((Zr c 8 ∗ recvPay m c 8 ∗ Zs c 9 ∗ sendPay m c 9 ∗ OW c 0 ∗ Zr c 9 ∗ recvPay m c 9) -∗ Qα ⟨⟩)
        -∗ wp frame (wpE (defs₀ (F := F)) 𝒱₀ (c : Thread nD τ) none) Set.univ (k0_part30 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v12 v24) Qα) := by
  simp only [k0_part30_eq_skeleton]; unfold k0_part30_skel
  simp only [Prog.lift, Prog.bind_op, Prog.bind_ret, Prog.pure_eq_ret]
  iintro ⟨#HI, HO_0, HR_8, HS_9, HR_9⟩ Hk
  iapply (wait_arrived m K c 8 0 (by decide) (by decide) rfl) $$ [HO_0 HR_8]
  · isplitr; · iexact HI
    isplitl [HO_0]; · iexact HO_0
    iexact HR_8
  iintro ⟨HO_0, HZr_8, HA_8⟩
  iapply (wait_left m K c 9 0 (by decide) rfl) $$ [HO_0 HS_9]
  · isplitr; · iexact HI
    isplitl [HO_0]; · iexact HO_0
    iexact HS_9
  iintro ⟨HO_0, HZs_9, HP_9⟩
  iapply (wait_arrived m K c 9 0 (by decide) (by decide) rfl) $$ [HO_0 HR_9]
  · isplitr; · iexact HI
    isplitl [HO_0]; · iexact HO_0
    iexact HR_9
  iintro ⟨HO_0, HZr_9, HA_9⟩
  rw [wp_ret]; imodintro
  iapply Hk
  isplitl [HZr_8]; · iexact HZr_8
  isplitl [HA_8]; · iexact HA_8
  isplitl [HZs_9]; · iexact HZs_9
  isplitl [HP_9]; · iexact HP_9
  isplitl [HO_0]; · iexact HO_0
  isplitl [HZr_9]; · iexact HZr_9
  iexact HA_9

theorem part31 {arg1 : Memref sig .tc .smem S2 .i32} {harg1 : arg1.IsWhole} (v5 : BitVec 32) (v8 : BitVec 32) (v24 : BitVec 32)
    {Qα : PUnit → sProp 𝕄} :
    iprop(Inv m K ∗ OW c 0 ∗ Rx c 10 ∗ Rx c 12 ∗ Rx c 14)
      ⊢ iprop(((Zr c 10 ∗ recvPay m c 10 ∗ Zr c 12 ∗ recvPay m c 12 ∗ OW c 0 ∗ Zr c 14 ∗ recvPay m c 14) -∗ Qα ⟨⟩)
        -∗ wp frame (wpE (defs₀ (F := F)) 𝒱₀ (c : Thread nD τ) none) Set.univ (k0_part31 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v5 v8 v24) Qα) := by
  simp only [k0_part31_eq_skeleton]; unfold k0_part31_skel
  simp only [Prog.lift, Prog.bind_op, Prog.bind_ret, Prog.pure_eq_ret]
  iintro ⟨#HI, HO_0, HR_10, HR_12, HR_14⟩ Hk
  iapply (wait_arrived m K c 10 0 (by decide) (by decide) rfl) $$ [HO_0 HR_10]
  · isplitr; · iexact HI
    isplitl [HO_0]; · iexact HO_0
    iexact HR_10
  iintro ⟨HO_0, HZr_10, HA_10⟩
  iapply (wait_arrived m K c 12 0 (by decide) (by decide) rfl) $$ [HO_0 HR_12]
  · isplitr; · iexact HI
    isplitl [HO_0]; · iexact HO_0
    iexact HR_12
  iintro ⟨HO_0, HZr_12, HA_12⟩
  iapply (wait_arrived m K c 14 0 (by decide) (by decide) rfl) $$ [HO_0 HR_14]
  · isplitr; · iexact HI
    isplitl [HO_0]; · iexact HO_0
    iexact HR_14
  iintro ⟨HO_0, HZr_14, HA_14⟩
  rw [wp_ret]; imodintro
  iapply Hk
  isplitl [HZr_10]; · iexact HZr_10
  isplitl [HA_10]; · iexact HA_10
  isplitl [HZr_12]; · iexact HZr_12
  isplitl [HA_12]; · iexact HA_12
  isplitl [HO_0]; · iexact HO_0
  isplitl [HZr_14]; · iexact HZr_14
  iexact HA_14

theorem part32 {arg1 : Memref sig .tc .smem S2 .i32} {harg1 : arg1.IsWhole} (v2 : BitVec 32) (v5 : BitVec 32) (v25 : BitVec 32)
    {Qα : PUnit → sProp 𝕄} :
    iprop(Inv m K ∗ OW c 0 ∗ Rx c 16 ∗ Rx c 19 ∗ Rx c 21)
      ⊢ iprop(((Zr c 16 ∗ recvPay m c 16 ∗ Zr c 19 ∗ recvPay m c 19 ∗ OW c 0 ∗ Zr c 21 ∗ recvPay m c 21) -∗ Qα ⟨⟩)
        -∗ wp frame (wpE (defs₀ (F := F)) 𝒱₀ (c : Thread nD τ) none) Set.univ (k0_part32 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v25) Qα) := by
  simp only [k0_part32_eq_skeleton]; unfold k0_part32_skel
  simp only [Prog.lift, Prog.bind_op, Prog.bind_ret, Prog.pure_eq_ret]
  iintro ⟨#HI, HO_0, HR_16, HR_19, HR_21⟩ Hk
  iapply (wait_arrived m K c 16 0 (by decide) (by decide) rfl) $$ [HO_0 HR_16]
  · isplitr; · iexact HI
    isplitl [HO_0]; · iexact HO_0
    iexact HR_16
  iintro ⟨HO_0, HZr_16, HA_16⟩
  iapply (wait_arrived m K c 19 0 (by decide) (by decide) rfl) $$ [HO_0 HR_19]
  · isplitr; · iexact HI
    isplitl [HO_0]; · iexact HO_0
    iexact HR_19
  iintro ⟨HO_0, HZr_19, HA_19⟩
  iapply (wait_arrived m K c 21 0 (by decide) (by decide) rfl) $$ [HO_0 HR_21]
  · isplitr; · iexact HI
    isplitl [HO_0]; · iexact HO_0
    iexact HR_21
  iintro ⟨HO_0, HZr_21, HA_21⟩
  rw [wp_ret]; imodintro
  iapply Hk
  isplitl [HZr_16]; · iexact HZr_16
  isplitl [HA_16]; · iexact HA_16
  isplitl [HZr_19]; · iexact HZr_19
  isplitl [HA_19]; · iexact HA_19
  isplitl [HO_0]; · iexact HO_0
  isplitl [HZr_21]; · iexact HZr_21
  iexact HA_21

end Cert.Swap
-- ==== Proof.PartsE.lean ====
/-
The last waits: the parts of the kernel's body one by one, each with what it takes and what it leaves.
-/
module

public import proofs.«01_k».proof.Proof.Closed

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

theorem part33 {arg1 : Memref sig .tc .smem S2 .i32} {harg1 : arg1.IsWhole}
    {Qα : PUnit → sProp 𝕄} :
    iprop(Inv m K ∗ OW c 0 ∗ Rx c 23 ∗ Sd c 10 ∗ Sd c 11 ∗ Sd c 12 ∗ Sd c 13)
      ⊢ iprop(((Zr c 23 ∗ recvPay m c 23 ∗ Zs c 10 ∗ sendPay m c 10 ∗ Zs c 11 ∗ sendPay m c 11 ∗ Zs c 12 ∗ sendPay m c 12 ∗ OW c 0 ∗ Zs c 13 ∗ sendPay m c 13) -∗ Qα ⟨⟩)
        -∗ wp frame (wpE (defs₀ (F := F)) 𝒱₀ (c : Thread nD τ) none) Set.univ (k0_part33 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c) Qα) := by
  simp only [k0_part33_eq_skeleton]; unfold k0_part33_skel
  simp only [Prog.lift, Prog.bind_op, Prog.bind_ret, Prog.pure_eq_ret]
  iintro ⟨#HI, HO_0, HR_23, HS_10, HS_11, HS_12, HS_13⟩ Hk
  iapply (wait_arrived m K c 23 0 (by decide) (by decide) rfl) $$ [HO_0 HR_23]
  · isplitr; · iexact HI
    isplitl [HO_0]; · iexact HO_0
    iexact HR_23
  iintro ⟨HO_0, HZr_23, HA_23⟩
  iapply (wait_sent m K c 10 0 (by decide) rfl) $$ [HO_0 HS_10]
  · isplitr; · iexact HI
    isplitl [HO_0]; · iexact HO_0
    iexact HS_10
  iintro ⟨HO_0, HZs_10, HP_10⟩
  iapply (wait_sent m K c 11 0 (by decide) rfl) $$ [HO_0 HS_11]
  · isplitr; · iexact HI
    isplitl [HO_0]; · iexact HO_0
    iexact HS_11
  iintro ⟨HO_0, HZs_11, HP_11⟩
  iapply (wait_sent m K c 12 0 (by decide) rfl) $$ [HO_0 HS_12]
  · isplitr; · iexact HI
    isplitl [HO_0]; · iexact HO_0
    iexact HS_12
  iintro ⟨HO_0, HZs_12, HP_12⟩
  iapply (wait_sent m K c 13 0 (by decide) rfl) $$ [HO_0 HS_13]
  · isplitr; · iexact HI
    isplitl [HO_0]; · iexact HO_0
    iexact HS_13
  iintro ⟨HO_0, HZs_13, HP_13⟩
  rw [wp_ret]; imodintro
  iapply Hk
  isplitl [HZr_23]; · iexact HZr_23
  isplitl [HA_23]; · iexact HA_23
  isplitl [HZs_10]; · iexact HZs_10
  isplitl [HP_10]; · iexact HP_10
  isplitl [HZs_11]; · iexact HZs_11
  isplitl [HP_11]; · iexact HP_11
  isplitl [HZs_12]; · iexact HZs_12
  isplitl [HP_12]; · iexact HP_12
  isplitl [HO_0]; · iexact HO_0
  isplitl [HZs_13]; · iexact HZs_13
  iexact HP_13

theorem part34 {arg1 : Memref sig .tc .smem S2 .i32} {harg1 : arg1.IsWhole}
    {Qα : PUnit → sProp 𝕄} :
    iprop(Inv m K ∗ OW c 0 ∗ Sd c 14 ∗ Sd c 15 ∗ Sd c 16 ∗ Sd c 17 ∗ Sd c 18)
      ⊢ iprop(((Zs c 14 ∗ sendPay m c 14 ∗ Zs c 15 ∗ sendPay m c 15 ∗ Zs c 16 ∗ sendPay m c 16 ∗ Zs c 17 ∗ sendPay m c 17 ∗ OW c 0 ∗ Zs c 18 ∗ sendPay m c 18) -∗ Qα ⟨⟩)
        -∗ wp frame (wpE (defs₀ (F := F)) 𝒱₀ (c : Thread nD τ) none) Set.univ (k0_part34 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c) Qα) := by
  simp only [k0_part34_eq_skeleton]; unfold k0_part34_skel
  simp only [Prog.lift, Prog.bind_op, Prog.bind_ret, Prog.pure_eq_ret]
  iintro ⟨#HI, HO_0, HS_14, HS_15, HS_16, HS_17, HS_18⟩ Hk
  iapply (wait_sent m K c 14 0 (by decide) rfl) $$ [HO_0 HS_14]
  · isplitr; · iexact HI
    isplitl [HO_0]; · iexact HO_0
    iexact HS_14
  iintro ⟨HO_0, HZs_14, HP_14⟩
  iapply (wait_sent m K c 15 0 (by decide) rfl) $$ [HO_0 HS_15]
  · isplitr; · iexact HI
    isplitl [HO_0]; · iexact HO_0
    iexact HS_15
  iintro ⟨HO_0, HZs_15, HP_15⟩
  iapply (wait_sent m K c 16 0 (by decide) rfl) $$ [HO_0 HS_16]
  · isplitr; · iexact HI
    isplitl [HO_0]; · iexact HO_0
    iexact HS_16
  iintro ⟨HO_0, HZs_16, HP_16⟩
  iapply (wait_sent m K c 17 0 (by decide) rfl) $$ [HO_0 HS_17]
  · isplitr; · iexact HI
    isplitl [HO_0]; · iexact HO_0
    iexact HS_17
  iintro ⟨HO_0, HZs_17, HP_17⟩
  iapply (wait_sent m K c 18 0 (by decide) rfl) $$ [HO_0 HS_18]
  · isplitr; · iexact HI
    isplitl [HO_0]; · iexact HO_0
    iexact HS_18
  iintro ⟨HO_0, HZs_18, HP_18⟩
  rw [wp_ret]; imodintro
  iapply Hk
  isplitl [HZs_14]; · iexact HZs_14
  isplitl [HP_14]; · iexact HP_14
  isplitl [HZs_15]; · iexact HZs_15
  isplitl [HP_15]; · iexact HP_15
  isplitl [HZs_16]; · iexact HZs_16
  isplitl [HP_16]; · iexact HP_16
  isplitl [HZs_17]; · iexact HZs_17
  isplitl [HP_17]; · iexact HP_17
  isplitl [HO_0]; · iexact HO_0
  isplitl [HZs_18]; · iexact HZs_18
  iexact HP_18

theorem part35 {arg1 : Memref sig .tc .smem S2 .i32} {harg1 : arg1.IsWhole}
    {Qα : PUnit → sProp 𝕄} :
    iprop(Inv m K ∗ OW c 0 ∗ Sd c 19 ∗ Sd c 20 ∗ Sd c 21 ∗ Sd c 22 ∗ Sd c 23)
      ⊢ iprop(((Zs c 19 ∗ sendPay m c 19 ∗ Zs c 20 ∗ sendPay m c 20 ∗ Zs c 21 ∗ sendPay m c 21 ∗ Zs c 22 ∗ sendPay m c 22 ∗ OW c 0 ∗ Zs c 23 ∗ sendPay m c 23) -∗ Qα ⟨⟩)
        -∗ wp frame (wpE (defs₀ (F := F)) 𝒱₀ (c : Thread nD τ) none) Set.univ (k0_part35 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c) Qα) := by
  simp only [k0_part35_eq_skeleton]; unfold k0_part35_skel
  simp only [Prog.lift, Prog.bind_op, Prog.bind_ret, Prog.pure_eq_ret]
  iintro ⟨#HI, HO_0, HS_19, HS_20, HS_21, HS_22, HS_23⟩ Hk
  iapply (wait_sent m K c 19 0 (by decide) rfl) $$ [HO_0 HS_19]
  · isplitr; · iexact HI
    isplitl [HO_0]; · iexact HO_0
    iexact HS_19
  iintro ⟨HO_0, HZs_19, HP_19⟩
  iapply (wait_sent m K c 20 0 (by decide) rfl) $$ [HO_0 HS_20]
  · isplitr; · iexact HI
    isplitl [HO_0]; · iexact HO_0
    iexact HS_20
  iintro ⟨HO_0, HZs_20, HP_20⟩
  iapply (wait_sent m K c 21 0 (by decide) rfl) $$ [HO_0 HS_21]
  · isplitr; · iexact HI
    isplitl [HO_0]; · iexact HO_0
    iexact HS_21
  iintro ⟨HO_0, HZs_21, HP_21⟩
  iapply (wait_sent m K c 22 0 (by decide) rfl) $$ [HO_0 HS_22]
  · isplitr; · iexact HI
    isplitl [HO_0]; · iexact HO_0
    iexact HS_22
  iintro ⟨HO_0, HZs_22, HP_22⟩
  iapply (wait_sent m K c 23 0 (by decide) rfl) $$ [HO_0 HS_23]
  · isplitr; · iexact HI
    isplitl [HO_0]; · iexact HO_0
    iexact HS_23
  iintro ⟨HO_0, HZs_23, HP_23⟩
  rw [wp_ret]; imodintro
  iapply Hk
  isplitl [HZs_19]; · iexact HZs_19
  isplitl [HP_19]; · iexact HP_19
  isplitl [HZs_20]; · iexact HZs_20
  isplitl [HP_20]; · iexact HP_20
  isplitl [HZs_21]; · iexact HZs_21
  isplitl [HP_21]; · iexact HP_21
  isplitl [HZs_22]; · iexact HZs_22
  isplitl [HP_22]; · iexact HP_22
  isplitl [HO_0]; · iexact HO_0
  isplitl [HZs_23]; · iexact HZs_23
  iexact HP_23

theorem part36 {arg1 : Memref sig .tc .smem S2 .i32} {harg1 : arg1.IsWhole} (v2 : BitVec 32) (v5 : BitVec 32) (v8 : BitVec 32) (v24 : BitVec 32) (v25 : BitVec 32)
    {Qα : PUnit → sProp 𝕄} :
    iprop(Inv m K ∗ OW c 0 ∗ Sd c 24 ∗ Rx c 24 ∗ Sd c 25)
      ⊢ iprop(((Zs c 24 ∗ sendPay m c 24 ∗ Zr c 24 ∗ recvPay m c 24 ∗ OW c 0 ∗ Zs c 25 ∗ sendPay m c 25) -∗ Qα ⟨⟩)
        -∗ wp frame (wpE (defs₀ (F := F)) 𝒱₀ (c : Thread nD τ) none) Set.univ (k0_part36 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v24 v25) Qα) := by
  simp only [k0_part36_eq_skeleton]; unfold k0_part36_skel
  simp only [Prog.lift, Prog.bind_op, Prog.bind_ret, Prog.pure_eq_ret]
  iintro ⟨#HI, HO_0, HS_24, HR_24, HS_25⟩ Hk
  iapply (wait_sent m K c 24 0 (by decide) rfl) $$ [HO_0 HS_24]
  · isplitr; · iexact HI
    isplitl [HO_0]; · iexact HO_0
    iexact HS_24
  iintro ⟨HO_0, HZs_24, HP_24⟩
  iapply (wait_arrived m K c 24 0 (by decide) (by decide) rfl) $$ [HO_0 HR_24]
  · isplitr; · iexact HI
    isplitl [HO_0]; · iexact HO_0
    iexact HR_24
  iintro ⟨HO_0, HZr_24, HA_24⟩
  iapply (wait_sent m K c 25 0 (by decide) rfl) $$ [HO_0 HS_25]
  · isplitr; · iexact HI
    isplitl [HO_0]; · iexact HO_0
    iexact HS_25
  iintro ⟨HO_0, HZs_25, HP_25⟩
  rw [wp_ret]; imodintro
  iapply Hk
  isplitl [HZs_24]; · iexact HZs_24
  isplitl [HP_24]; · iexact HP_24
  isplitl [HZr_24]; · iexact HZr_24
  isplitl [HA_24]; · iexact HA_24
  isplitl [HO_0]; · iexact HO_0
  isplitl [HZs_25]; · iexact HZs_25
  iexact HP_25

theorem part37 {arg1 : Memref sig .tc .smem S2 .i32} {harg1 : arg1.IsWhole} (v2 : BitVec 32) (v5 : BitVec 32) (v8 : BitVec 32) (v24 : BitVec 32) (v25 : BitVec 32)
    {Qα : PUnit → sProp 𝕄} :
    iprop(Inv m K ∗ OW c 0 ∗ Rx c 25 ∗ Sd c 26 ∗ Rx c 26 ∗ Sd c 27)
      ⊢ iprop(((Zr c 25 ∗ recvPay m c 25 ∗ Zs c 26 ∗ sendPay m c 26 ∗ Zr c 26 ∗ recvPay m c 26 ∗ OW c 0 ∗ Zs c 27 ∗ sendPay m c 27) -∗ Qα ⟨⟩)
        -∗ wp frame (wpE (defs₀ (F := F)) 𝒱₀ (c : Thread nD τ) none) Set.univ (k0_part37 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v24 v25) Qα) := by
  simp only [k0_part37_eq_skeleton]; unfold k0_part37_skel
  simp only [Prog.lift, Prog.bind_op, Prog.bind_ret, Prog.pure_eq_ret]
  iintro ⟨#HI, HO_0, HR_25, HS_26, HR_26, HS_27⟩ Hk
  iapply (wait_arrived m K c 25 0 (by decide) (by decide) rfl) $$ [HO_0 HR_25]
  · isplitr; · iexact HI
    isplitl [HO_0]; · iexact HO_0
    iexact HR_25
  iintro ⟨HO_0, HZr_25, HA_25⟩
  iapply (wait_sent m K c 26 0 (by decide) rfl) $$ [HO_0 HS_26]
  · isplitr; · iexact HI
    isplitl [HO_0]; · iexact HO_0
    iexact HS_26
  iintro ⟨HO_0, HZs_26, HP_26⟩
  iapply (wait_arrived m K c 26 0 (by decide) (by decide) rfl) $$ [HO_0 HR_26]
  · isplitr; · iexact HI
    isplitl [HO_0]; · iexact HO_0
    iexact HR_26
  iintro ⟨HO_0, HZr_26, HA_26⟩
  iapply (wait_sent m K c 27 0 (by decide) rfl) $$ [HO_0 HS_27]
  · isplitr; · iexact HI
    isplitl [HO_0]; · iexact HO_0
    iexact HS_27
  iintro ⟨HO_0, HZs_27, HP_27⟩
  rw [wp_ret]; imodintro
  iapply Hk
  isplitl [HZr_25]; · iexact HZr_25
  isplitl [HA_25]; · iexact HA_25
  isplitl [HZs_26]; · iexact HZs_26
  isplitl [HP_26]; · iexact HP_26
  isplitl [HZr_26]; · iexact HZr_26
  isplitl [HA_26]; · iexact HA_26
  isplitl [HO_0]; · iexact HO_0
  isplitl [HZs_27]; · iexact HZs_27
  iexact HP_27

theorem part38 {arg1 : Memref sig .tc .smem S2 .i32} {harg1 : arg1.IsWhole} (v2 : BitVec 32) (v5 : BitVec 32) (v8 : BitVec 32) (v24 : BitVec 32)
    {Qα : (Σ' (v1025 : BitVec 32), BitVec 32) → sProp 𝕄} :
    iprop(Inv m K ∗ OW c 0 ∗ Rx c 27 ∗ Sd c 28 ∗ Rx c 28 ∗ Sd c 29)
      ⊢ iprop((∀ a, (Zr c 27 ∗ recvPay m c 27 ∗ Zs c 28 ∗ sendPay m c 28 ∗ Zr c 28 ∗ recvPay m c 28 ∗ OW c 0 ∗ Zs c 29 ∗ sendPay m c 29) -∗ Qα a)
        -∗ wp frame (wpE (defs₀ (F := F)) 𝒱₀ (c : Thread nD τ) none) Set.univ (k0_part38 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v2 v5 v8 v24) Qα) := by
  simp only [k0_part38_eq_skeleton]; unfold k0_part38_skel
  simp only [Prog.lift, Prog.bind_op, Prog.bind_ret, Prog.pure_eq_ret]
  iintro ⟨#HI, HO_0, HR_27, HS_28, HR_28, HS_29⟩ Hk
  iapply (wait_arrived m K c 27 0 (by decide) (by decide) rfl) $$ [HO_0 HR_27]
  · isplitr; · iexact HI
    isplitl [HO_0]; · iexact HO_0
    iexact HR_27
  iintro ⟨HO_0, HZr_27, HA_27⟩
  iapply (wait_sent m K c 28 0 (by decide) rfl) $$ [HO_0 HS_28]
  · isplitr; · iexact HI
    isplitl [HO_0]; · iexact HO_0
    iexact HS_28
  iintro ⟨HO_0, HZs_28, HP_28⟩
  iapply (wait_arrived m K c 28 0 (by decide) (by decide) rfl) $$ [HO_0 HR_28]
  · isplitr; · iexact HI
    isplitl [HO_0]; · iexact HO_0
    iexact HR_28
  iintro ⟨HO_0, HZr_28, HA_28⟩
  iapply (wait_sent m K c 29 0 (by decide) rfl) $$ [HO_0 HS_29]
  · isplitr; · iexact HI
    isplitl [HO_0]; · iexact HO_0
    iexact HS_29
  iintro ⟨HO_0, HZs_29, HP_29⟩
  rw [wp_ret]; imodintro
  iapply Hk
  isplitl [HZr_27]; · iexact HZr_27
  isplitl [HA_27]; · iexact HA_27
  isplitl [HZs_28]; · iexact HZs_28
  isplitl [HP_28]; · iexact HP_28
  isplitl [HZr_28]; · iexact HZr_28
  isplitl [HA_28]; · iexact HA_28
  isplitl [HO_0]; · iexact HO_0
  isplitl [HZs_29]; · iexact HZs_29
  iexact HP_29

theorem part39 {arg1 : Memref sig .tc .smem S2 .i32} {harg1 : arg1.IsWhole} (v5 : BitVec 32) (v8 : BitVec 32) (v24 : BitVec 32) (v25 : BitVec 32) (v1025 : BitVec 32) (v1026 : BitVec 32)
    {Qα : PUnit → sProp 𝕄} :
    iprop(Inv m K ∗ OW c 0 ∗ Rx c 29 ∗ Sd c 30 ∗ Rx c 30 ∗ Sd c 31)
      ⊢ iprop(((Zr c 29 ∗ recvPay m c 29 ∗ Zs c 30 ∗ sendPay m c 30 ∗ Zr c 30 ∗ recvPay m c 30 ∗ OW c 0 ∗ Zs c 31 ∗ sendPay m c 31) -∗ Qα ⟨⟩)
        -∗ wp frame (wpE (defs₀ (F := F)) 𝒱₀ (c : Thread nD τ) none) Set.univ (k0_part39 (F := F) (Memref.whole main_arg0) (Memref.isWhole_whole _) arg1 harg1 (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12 c v5 v8 v24 v25 v1025 v1026) Qα) := by
  simp only [k0_part39_eq_skeleton]; unfold k0_part39_skel
  simp only [Prog.lift, Prog.bind_op, Prog.bind_ret, Prog.pure_eq_ret]
  iintro ⟨#HI, HO_0, HR_29, HS_30, HR_30, HS_31⟩ Hk
  iapply (wait_arrived m K c 29 0 (by decide) (by decide) rfl) $$ [HO_0 HR_29]
  · isplitr; · iexact HI
    isplitl [HO_0]; · iexact HO_0
    iexact HR_29
  iintro ⟨HO_0, HZr_29, HA_29⟩
  iapply (wait_sent m K c 30 0 (by decide) rfl) $$ [HO_0 HS_30]
  · isplitr; · iexact HI
    isplitl [HO_0]; · iexact HO_0
    iexact HS_30
  iintro ⟨HO_0, HZs_30, HP_30⟩
  iapply (wait_arrived m K c 30 0 (by decide) (by decide) rfl) $$ [HO_0 HR_30]
  · isplitr; · iexact HI
    isplitl [HO_0]; · iexact HO_0
    iexact HR_30
  iintro ⟨HO_0, HZr_30, HA_30⟩
  iapply (wait_sent m K c 31 0 (by decide) rfl) $$ [HO_0 HS_31]
  · isplitr; · iexact HI
    isplitl [HO_0]; · iexact HO_0
    iexact HS_31
  iintro ⟨HO_0, HZs_31, HP_31⟩
  rw [wp_ret]; imodintro
  iapply Hk
  isplitl [HZr_29]; · iexact HZr_29
  isplitl [HA_29]; · iexact HA_29
  isplitl [HZs_30]; · iexact HZs_30
  isplitl [HP_30]; · iexact HP_30
  isplitl [HZr_30]; · iexact HZr_30
  isplitl [HA_30]; · iexact HA_30
  isplitl [HO_0]; · iexact HO_0
  isplitl [HZs_31]; · iexact HZs_31
  iexact HP_31

end Cert.Swap
-- ==== Proof.Body.lean ====
/-
The body of the kernel on device `c`, from what it is given to what it leaves.
-/
module

public import proofs.«01_k».proof.Proof.Start
public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-- What device `c` starts the body with, and what it leaves. -/
def Entry : sProp 𝕄 :=
  iprop(Table c ∗ Ob c (O₀ c) ∗ Sg c 0 ∗ Sg c 1 ∗ Sg c 2 ∗ atPos ER (barCell c) 0 ∅ 0 ∗ cred (tallyAt (barCell c) () 3)
    ∗ Cp c 0 0 ∗ Cp c 1 0 ∗ Gf c 0 ∗ Gf c 1 ∗ (bigSep Finset.univ fun t => Tx c t) ∗ (bigSep Finset.univ fun t => Rx c t)
    ∗ (bigSep Finset.univ fun j => Sf c j) ∗ bigSep Finset.univ fun t : Fin 10 => xP m c (chunk (Fin.ofNat 32 t.val) c))
def Exit : sProp 𝕄 :=
  iprop(Table c ∗ OW c 0 ∗ semVal (barCell c) 0 ∗ semVal (copyCell c 0) 0 ∗ semVal (copyCell c 1) 0
    ∗ Gf c 0 ∗ Gf c 1 ∗ (bigSep Finset.univ fun t => Zs c t) ∗ (bigSep Finset.univ fun t => Zr c t)
    ∗ (bigSep Finset.univ fun j => Sf c j) ∗ (bigSep Finset.univ fun t : Fin 10 => xP m c (chunk (Fin.ofNat 32 t.val) c))
    ∗ bigSep Finset.univ fun t => recvPay m c t)

omit [FloatOps F] in
theorem ready : iprop((bigSep Finset.univ fun t => Tx (F := F) c t) ∗ bigSep Finset.univ fun t => land (F := F) (peer t c) t)
    ⊢ (bigSep Finset.univ fun t => Tr (F := F) c t) := by
  unfold Tr
  exact Entails.of_eq (bigSep_sep' Finset.univ (fun t => Tx (F := F) c t) fun t => land (F := F) (peer t c) t).symm

set_option maxHeartbeats 4000000 in
theorem body {Qα : PUnit → sProp 𝕄} :
    iprop(Inv m K ∗ Entry m c)
      ⊢ iprop((Exit m c -∗ Qα ⟨⟩)
        -∗ wp frame (wpE (defs₀ (F := F)) 𝒱₀ (c : Thread nD τ) none) Set.univ (cc0_body (F := F) (Memref.whole main_arg0) (Memref.isWhole_whole _) (Memref.whole cc0_stg0_0) (Memref.isWhole_whole _) (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12) Qα) := by
  simp only [cc0_body_eq_skeleton]; unfold cc0_body_skel
  simp only [Prog.lift, Prog.bind_op, Prog.bind_ret, Prog.pure_eq_ret, wp_bind]
  unfold Entry
  iintro ⟨#HI, Ht, Ho, Hg0, Hg1, Hg2, Hat, Hc, HC_0_0, HC_1_0, HGf_0, HGf_1, Htx, Hrx, Hsf, Hxs⟩ Hk
  ihave Hrx := (Entails.of_eq (list32 _)) $$ Hrx
  icases Hrx with ⟨HR_0, HR_1, HR_2, HR_3, HR_4, HR_5, HR_6, HR_7, HR_8, HR_9, HR_10, HR_11, HR_12, HR_13, HR_14, HR_15, HR_16, HR_17, HR_18, HR_19, HR_20, HR_21, HR_22, HR_23, HR_24, HR_25, HR_26, HR_27, HR_28, HR_29, HR_30, HR_31⟩
  ihave Hsf := (Entails.of_eq (list10 _)) $$ Hsf
  icases Hsf with ⟨HF_0, HF_1, HF_2, HF_3, HF_4, HF_5, HF_6, HF_7, HF_8, HF_9⟩
  ihave Hxs := (Entails.of_eq (list10 _)) $$ Hxs
  icases Hxs with ⟨HX_0, HX_1, HX_2, HX_3, HX_4, HX_5, HX_6, HX_7, HX_8, HX_9⟩
  iapply (part1 m K c) $$ [Ht Ho Hg0]
  · isplitr; · iexact HI
    isplitl [Ht]; · iexact Ht
    isplitl [Ho]; · iexact Ho
    iexact Hg0
  iintro %v2 %v5 %v8 %hw %v12 %v15 %v19 %v23 %v24 %v25 ⟨Ht, Ho⟩
  try dsimp only
  iapply (part2 m K c) $$ [Ho Hg1 Hg2 Hat Hc HC_0_0 HGf_0 HX_0]
  · isplitr; · iexact HI
    isplitl [Ho]; · iexact Ho
    isplitl [Hg1]; · iexact Hg1
    isplitl [Hg2]; · iexact Hg2
    isplitl [Hat]; · iexact Hat
    isplitl [Hc]; · iexact Hc
    isplitl [HC_0_0]; · iexact HC_0_0
    isplitl [HGf_0]; · iexact HGf_0
    iexact HX_0
  iintro ⟨HO_32, Hb, Hl, HK_0_0⟩
  ihave Htr := (ready c) $$ [Htx Hl]
  · isplitl [Htx]; · iexact Htx
    iexact Hl
  ihave Htr := (Entails.of_eq (list32 fun t => Tr (F := F) c t)) $$ Htr
  icases Htr with ⟨HT_0, HT_1, HT_2, HT_3, HT_4, HT_5, HT_6, HT_7, HT_8, HT_9, HT_10, HT_11, HT_12, HT_13, HT_14, HT_15, HT_16, HT_17, HT_18, HT_19, HT_20, HT_21, HT_22, HT_23, HT_24, HT_25, HT_26, HT_27, HT_28, HT_29, HT_30, HT_31⟩
  iapply (part3 m K c) $$ [HC_1_0 HGf_1 HX_1 HO_32 HK_0_0 HF_0]
  · isplitr; · iexact HI
    isplitl [HC_1_0]; · iexact HC_1_0
    isplitl [HGf_1]; · iexact HGf_1
    isplitl [HX_1]; · iexact HX_1
    isplitl [HO_32]; · iexact HO_32
    isplitl [HK_0_0]; · iexact HK_0_0
    iexact HF_0
  iintro ⟨HK_1_0, HO_32, HC_0_1, HX_0, HGh_0_0, HP_0⟩
  iapply (part4 m K c) $$ [HO_32 HT_0 HP_0 HGh_0_0 HC_0_1 HX_2 HK_1_0 HF_1]
  · isplitr; · iexact HI
    isplitl [HO_32]; · iexact HO_32
    isplitl [HT_0]; · iexact HT_0
    isplitl [HP_0]; · iexact HP_0
    isplitl [HGh_0_0]; · iexact HGh_0_0
    isplitl [HC_0_1]; · iexact HC_0_1
    isplitl [HX_2]; · iexact HX_2
    isplitl [HK_1_0]; · iexact HK_1_0
    iexact HF_1
  iintro ⟨HS_0, HK_0_1, HO_31, HC_1_1, HX_1, HGh_1_1, HP_1⟩
  iapply (part5 m K c) $$ [HO_31 HT_1 HP_1 HGh_1_1 HC_1_1 HX_3 HK_0_1 HF_2]
  · isplitr; · iexact HI
    isplitl [HO_31]; · iexact HO_31
    isplitl [HT_1]; · iexact HT_1
    isplitl [HP_1]; · iexact HP_1
    isplitl [HGh_1_1]; · iexact HGh_1_1
    isplitl [HC_1_1]; · iexact HC_1_1
    isplitl [HX_3]; · iexact HX_3
    isplitl [HK_0_1]; · iexact HK_0_1
    iexact HF_2
  iintro ⟨HS_1, HK_1_1, HO_30, HC_0_2, HX_2, HGh_0_2, HP_2⟩
  iapply (part6 m K c) $$ [HO_30 HT_2 HP_2 HGh_0_2 HC_0_2 HX_4 HK_1_1 HF_3]
  · isplitr; · iexact HI
    isplitl [HO_30]; · iexact HO_30
    isplitl [HT_2]; · iexact HT_2
    isplitl [HP_2]; · iexact HP_2
    isplitl [HGh_0_2]; · iexact HGh_0_2
    isplitl [HC_0_2]; · iexact HC_0_2
    isplitl [HX_4]; · iexact HX_4
    isplitl [HK_1_1]; · iexact HK_1_1
    iexact HF_3
  iintro %a ⟨HS_2, HK_0_2, HO_29, HC_1_2, HX_3, HGh_1_3, HP_3⟩
  obtain ⟨a, a'⟩ := a
  try dsimp only
  iapply (part7 m K c) $$ [HO_29 HT_3 HP_3 HGh_1_3 HC_1_2 HX_5 HK_0_2 HF_4]
  · isplitr; · iexact HI
    isplitl [HO_29]; · iexact HO_29
    isplitl [HT_3]; · iexact HT_3
    isplitl [HP_3]; · iexact HP_3
    isplitl [HGh_1_3]; · iexact HGh_1_3
    isplitl [HC_1_2]; · iexact HC_1_2
    isplitl [HX_5]; · iexact HX_5
    isplitl [HK_0_2]; · iexact HK_0_2
    iexact HF_4
  iintro %a ⟨HS_3, HK_1_2, HO_28, HC_0_3, HX_4, HGh_0_4, HP_4⟩
  try dsimp only
  iapply (part8 m K c) $$ [HO_28 HT_4 HP_4 HGh_0_4 HC_0_3 HX_6 HK_1_2 HF_5]
  · isplitr; · iexact HI
    isplitl [HO_28]; · iexact HO_28
    isplitl [HT_4]; · iexact HT_4
    isplitl [HP_4]; · iexact HP_4
    isplitl [HGh_0_4]; · iexact HGh_0_4
    isplitl [HC_0_3]; · iexact HC_0_3
    isplitl [HX_6]; · iexact HX_6
    isplitl [HK_1_2]; · iexact HK_1_2
    iexact HF_5
  iintro ⟨HS_4, HK_0_3, HO_27, HC_1_3, HX_5, HGh_1_5, HP_5⟩
  iapply (part9 m K c) $$ [HO_27 HT_5 HP_5 HGh_1_5 HC_1_3 HX_7 HK_0_3]
  · isplitr; · iexact HI
    isplitl [HO_27]; · iexact HO_27
    isplitl [HT_5]; · iexact HT_5
    isplitl [HP_5]; · iexact HP_5
    isplitl [HGh_1_5]; · iexact HGh_1_5
    isplitl [HC_1_3]; · iexact HC_1_3
    isplitl [HX_7]; · iexact HX_7
    iexact HK_0_3
  iintro %a ⟨%hf6, HS_5, HK_1_3, HO_26, HC_0_4, HX_6, HGh_0_6⟩
  try dsimp only
  iapply (part10 m K c (hin := hf6)) $$ [HF_6 HO_26 HT_6 HGh_0_6 HC_0_4 HX_8 HK_1_3]
  · isplitr; · iexact HI
    isplitl [HF_6]; · iexact HF_6
    isplitl [HO_26]; · iexact HO_26
    isplitl [HT_6]; · iexact HT_6
    isplitl [HGh_0_6]; · iexact HGh_0_6
    isplitl [HC_0_4]; · iexact HC_0_4
    isplitl [HX_8]; · iexact HX_8
    iexact HK_1_3
  iintro %a ⟨%hf7, HS_6, HK_0_4, HO_25, HC_1_4, HX_7, HGh_1_7⟩
  try dsimp only
  iapply (part11 m K c (hin := hf7)) $$ [HF_7 HO_25 HT_7 HGh_1_7 HC_1_4 HX_9 HK_0_4]
  · isplitr; · iexact HI
    isplitl [HF_7]; · iexact HF_7
    isplitl [HO_25]; · iexact HO_25
    isplitl [HT_7]; · iexact HT_7
    isplitl [HGh_1_7]; · iexact HGh_1_7
    isplitl [HC_1_4]; · iexact HC_1_4
    isplitl [HX_9]; · iexact HX_9
    iexact HK_0_4
  iintro ⟨HS_7, HK_1_4, HO_24, HC_0_5, HGh_0_8, HX_8⟩
  iapply (part12 m K c) $$ [HGh_0_8 HF_8 HO_24 HT_8 HK_1_4 HF_9]
  · isplitr; · iexact HI
    isplitl [HGh_0_8]; · iexact HGh_0_8
    isplitl [HF_8]; · iexact HF_8
    isplitl [HO_24]; · iexact HO_24
    isplitl [HT_8]; · iexact HT_8
    isplitl [HK_1_4]; · iexact HK_1_4
    iexact HF_9
  iintro %a ⟨%hf9, HGh_0_8, HS_8, HO_23, HC_1_5, HX_9, HGh_1_9, HF_9⟩
  obtain ⟨a, a'⟩ := a
  try dsimp only
  iapply (part13 m K c (hin := hf9)) $$ [HF_9 HO_23 HT_9 HS_0]
  · isplitr; · iexact HI
    isplitl [HF_9]; · iexact HF_9
    isplitl [HO_23]; · iexact HO_23
    isplitl [HT_9]; · iexact HT_9
    iexact HS_0
  iintro ⟨HS_9, HO_22, HZs_0, HP_0⟩
  iapply (part14 m K c) $$ [HO_22 HR_0 HT_10 HT_11]
  · isplitr; · iexact HI
    isplitl [HO_22]; · iexact HO_22
    isplitl [HR_0]; · iexact HR_0
    isplitl [HT_10]; · iexact HT_10
    iexact HT_11
  iintro ⟨HZr_0, HS_10, HO_20, HS_11⟩
  iapply (part15 m K c) $$ [HO_20 HS_1 HR_1 HT_12]
  · isplitr; · iexact HI
    isplitl [HO_20]; · iexact HO_20
    isplitl [HS_1]; · iexact HS_1
    isplitl [HR_1]; · iexact HR_1
    iexact HT_12
  iintro %a ⟨HZs_1, HP_1, HZr_1, HP_13, HO_19, HS_12⟩
  obtain ⟨a, a'⟩ := a
  try dsimp only
  iapply (part16 m K c) $$ [HO_19 HT_13 HP_13 HS_2 HR_2]
  · isplitr; · iexact HI
    isplitl [HO_19]; · iexact HO_19
    isplitl [HT_13]; · iexact HT_13
    isplitl [HP_13]; · iexact HP_13
    isplitl [HS_2]; · iexact HS_2
    iexact HR_2
  iintro %a ⟨HS_13, HZs_2, HP_2, HO_18, HZr_2, HP_14, HP_15⟩
  obtain ⟨a, a'⟩ := a
  try dsimp only
  iapply (part17 m K c) $$ [HO_18 HT_14 HP_14 HT_15 HP_15 HS_3]
  · isplitr; · iexact HI
    isplitl [HO_18]; · iexact HO_18
    isplitl [HT_14]; · iexact HT_14
    isplitl [HP_14]; · iexact HP_14
    isplitl [HT_15]; · iexact HT_15
    isplitl [HP_15]; · iexact HP_15
    iexact HS_3
  iintro %a ⟨HS_14, HS_15, HO_16, HZs_3, HP_3⟩
  obtain ⟨a, a'⟩ := a
  try dsimp only
  iapply (part18 m K c) $$ [HO_16 HR_3 HT_16 HT_17]
  · isplitr; · iexact HI
    isplitl [HO_16]; · iexact HO_16
    isplitl [HR_3]; · iexact HR_3
    isplitl [HT_16]; · iexact HT_16
    iexact HT_17
  iintro ⟨HZr_3, HS_16, HO_14, HS_17⟩
  iapply (part19 m K c) $$ [HO_14 HS_4 HR_4 HT_18]
  · isplitr; · iexact HI
    isplitl [HO_14]; · iexact HO_14
    isplitl [HS_4]; · iexact HS_4
    isplitl [HR_4]; · iexact HR_4
    iexact HT_18
  iintro ⟨HZs_4, HP_4, HZr_4, HP_19, HO_13, HS_18⟩
  iapply (part20 m K c) $$ [HO_13 HT_19 HP_19 HS_5 HR_5]
  · isplitr; · iexact HI
    isplitl [HO_13]; · iexact HO_13
    isplitl [HT_19]; · iexact HT_19
    isplitl [HP_19]; · iexact HP_19
    isplitl [HS_5]; · iexact HS_5
    iexact HR_5
  iintro ⟨HS_19, HZs_5, HP_5, HO_12, HZr_5, HP_20, HP_21⟩
  iapply (part21 m K c) $$ [HO_12 HT_20 HP_20 HT_21 HP_21 HS_6]
  · isplitr; · iexact HI
    isplitl [HO_12]; · iexact HO_12
    isplitl [HT_20]; · iexact HT_20
    isplitl [HP_20]; · iexact HP_20
    isplitl [HT_21]; · iexact HT_21
    isplitl [HP_21]; · iexact HP_21
    iexact HS_6
  iintro ⟨HS_20, HS_21, HO_10, HZs_6, HP_6⟩
  iapply (part22 m K c) $$ [HO_10 HR_6 HT_22]
  · isplitr; · iexact HI
    isplitl [HO_10]; · iexact HO_10
    isplitl [HR_6]; · iexact HR_6
    iexact HT_22
  iintro ⟨HZr_6, HP_23, HO_9, HS_22⟩
  iapply (part23 m K c) $$ [HO_9 HT_23 HP_23 HR_11 HT_24]
  · isplitr; · iexact HI
    isplitl [HO_9]; · iexact HO_9
    isplitl [HT_23]; · iexact HT_23
    isplitl [HP_23]; · iexact HP_23
    isplitl [HR_11]; · iexact HR_11
    iexact HT_24
  iintro %a ⟨HS_23, HZr_11, HO_7, HS_24⟩
  try dsimp only
  iapply (part24 m K c) $$ [HO_7 HR_18 HT_25]
  · isplitr; · iexact HI
    isplitl [HO_7]; · iexact HO_7
    isplitl [HR_18]; · iexact HR_18
    iexact HT_25
  iintro ⟨HZr_18, HO_6, HS_25⟩
  iapply (part25 m K c) $$ [HO_6 HR_13 HT_26 HR_20]
  · isplitr; · iexact HI
    isplitl [HO_6]; · iexact HO_6
    isplitl [HR_13]; · iexact HR_13
    isplitl [HT_26]; · iexact HT_26
    iexact HR_20
  iintro %a ⟨HZr_13, HS_26, HO_5, HZr_20, HA_20⟩
  obtain ⟨a, a'⟩ := a
  try dsimp only
  iapply (part26 m K c) $$ [HA_20 HO_5 HT_27 HR_15 HT_28]
  · isplitr; · iexact HI
    isplitl [HA_20]; · iexact HA_20
    isplitl [HO_5]; · iexact HO_5
    isplitl [HT_27]; · iexact HT_27
    isplitl [HR_15]; · iexact HR_15
    iexact HT_28
  iintro ⟨HS_27, HZr_15, HO_3, HS_28⟩
  iapply (part27 m K c) $$ [HO_3 HR_22 HT_29]
  · isplitr; · iexact HI
    isplitl [HO_3]; · iexact HO_3
    isplitl [HR_22]; · iexact HR_22
    iexact HT_29
  iintro ⟨HZr_22, HO_2, HS_29⟩
  iapply (part28 m K c) $$ [HO_2 HR_17 HT_30 HS_7]
  · isplitr; · iexact HI
    isplitl [HO_2]; · iexact HO_2
    isplitl [HR_17]; · iexact HR_17
    isplitl [HT_30]; · iexact HT_30
    iexact HS_7
  iintro ⟨HZr_17, HS_30, HO_1, HZs_7, HP_7⟩
  iapply (part29 m K c) $$ [HO_1 HR_7 HT_31 HS_8]
  · isplitr; · iexact HI
    isplitl [HO_1]; · iexact HO_1
    isplitl [HR_7]; · iexact HR_7
    isplitl [HT_31]; · iexact HT_31
    iexact HS_8
  iintro ⟨HZr_7, HS_31, HO_0, HZs_8, HP_8⟩
  iapply (part30 m K c) $$ [HO_0 HR_8 HS_9 HR_9]
  · isplitr; · iexact HI
    isplitl [HO_0]; · iexact HO_0
    isplitl [HR_8]; · iexact HR_8
    isplitl [HS_9]; · iexact HS_9
    iexact HR_9
  iintro ⟨HZr_8, HA_8, HZs_9, HP_9, HO_0, HZr_9, HA_9⟩
  iapply (part31 m K c) $$ [HO_0 HR_10 HR_12 HR_14]
  · isplitr; · iexact HI
    isplitl [HO_0]; · iexact HO_0
    isplitl [HR_10]; · iexact HR_10
    isplitl [HR_12]; · iexact HR_12
    iexact HR_14
  iintro ⟨HZr_10, HA_10, HZr_12, HA_12, HO_0, HZr_14, HA_14⟩
  iapply (part32 m K c) $$ [HO_0 HR_16 HR_19 HR_21]
  · isplitr; · iexact HI
    isplitl [HO_0]; · iexact HO_0
    isplitl [HR_16]; · iexact HR_16
    isplitl [HR_19]; · iexact HR_19
    iexact HR_21
  iintro ⟨HZr_16, HA_16, HZr_19, HA_19, HO_0, HZr_21, HA_21⟩
  iapply (part33 m K c) $$ [HO_0 HR_23 HS_10 HS_11 HS_12 HS_13]
  · isplitr; · iexact HI
    isplitl [HO_0]; · iexact HO_0
    isplitl [HR_23]; · iexact HR_23
    isplitl [HS_10]; · iexact HS_10
    isplitl [HS_11]; · iexact HS_11
    isplitl [HS_12]; · iexact HS_12
    iexact HS_13
  iintro ⟨HZr_23, HA_23, HZs_10, HP_10, HZs_11, HP_11, HZs_12, HP_12, HO_0, HZs_13, HP_13⟩
  iapply (part34 m K c) $$ [HO_0 HS_14 HS_15 HS_16 HS_17 HS_18]
  · isplitr; · iexact HI
    isplitl [HO_0]; · iexact HO_0
    isplitl [HS_14]; · iexact HS_14
    isplitl [HS_15]; · iexact HS_15
    isplitl [HS_16]; · iexact HS_16
    isplitl [HS_17]; · iexact HS_17
    iexact HS_18
  iintro ⟨HZs_14, HP_14, HZs_15, HP_15, HZs_16, HP_16, HZs_17, HP_17, HO_0, HZs_18, HP_18⟩
  iapply (part35 m K c) $$ [HO_0 HS_19 HS_20 HS_21 HS_22 HS_23]
  · isplitr; · iexact HI
    isplitl [HO_0]; · iexact HO_0
    isplitl [HS_19]; · iexact HS_19
    isplitl [HS_20]; · iexact HS_20
    isplitl [HS_21]; · iexact HS_21
    isplitl [HS_22]; · iexact HS_22
    iexact HS_23
  iintro ⟨HZs_19, HP_19, HZs_20, HP_20, HZs_21, HP_21, HZs_22, HP_22, HO_0, HZs_23, HP_23⟩
  iapply (part36 m K c) $$ [HO_0 HS_24 HR_24 HS_25]
  · isplitr; · iexact HI
    isplitl [HO_0]; · iexact HO_0
    isplitl [HS_24]; · iexact HS_24
    isplitl [HR_24]; · iexact HR_24
    iexact HS_25
  iintro ⟨HZs_24, HP_24, HZr_24, HA_24, HO_0, HZs_25, HP_25⟩
  iapply (part37 m K c) $$ [HO_0 HR_25 HS_26 HR_26 HS_27]
  · isplitr; · iexact HI
    isplitl [HO_0]; · iexact HO_0
    isplitl [HR_25]; · iexact HR_25
    isplitl [HS_26]; · iexact HS_26
    isplitl [HR_26]; · iexact HR_26
    iexact HS_27
  iintro ⟨HZr_25, HA_25, HZs_26, HP_26, HZr_26, HA_26, HO_0, HZs_27, HP_27⟩
  iapply (part38 m K c) $$ [HO_0 HR_27 HS_28 HR_28 HS_29]
  · isplitr; · iexact HI
    isplitl [HO_0]; · iexact HO_0
    isplitl [HR_27]; · iexact HR_27
    isplitl [HS_28]; · iexact HS_28
    isplitl [HR_28]; · iexact HR_28
    iexact HS_29
  iintro %a ⟨HZr_27, HA_27, HZs_28, HP_28, HZr_28, HA_28, HO_0, HZs_29, HP_29⟩
  obtain ⟨a, a'⟩ := a
  try dsimp only
  iapply (part39 m K c) $$ [HO_0 HR_29 HS_30 HR_30 HS_31]
  · isplitr; · iexact HI
    isplitl [HO_0]; · iexact HO_0
    isplitl [HR_29]; · iexact HR_29
    isplitl [HS_30]; · iexact HS_30
    isplitl [HR_30]; · iexact HR_30
    iexact HS_31
  iintro ⟨HZr_29, HA_29, HZs_30, HP_30, HZr_30, HA_30, HO_0, HZs_31, HP_31⟩
  iapply (wait_arrived m K c 31 0 (by decide) (by decide) rfl) $$ [HO_0 HR_31]
  · isplitr; · iexact HI
    isplitl [HO_0]; · iexact HO_0
    iexact HR_31
  iintro ⟨HO_0, HZr_31, HA_31⟩
  imod (close_copy m K c 0) $$ [HC_0_5] with Hcc0
  · isplitr; · iexact HI
    iexact HC_0_5
  imod (close_copy m K c 1) $$ [HC_1_5] with Hcc1
  · isplitr; · iexact HI
    iexact HC_1_5
  ihave HGf_0 := (Gh_free m c 0 8) $$ HGh_0_8
  ihave HGf_1 := (Gh_free m c 1 9) $$ HGh_1_9
  rw [wp_ret]; imodintro
  iapply Hk
  unfold Exit
  isplitl [Ht]; · iexact Ht
  isplitl [HO_0]; · iexact HO_0
  isplitl [Hb]; · iexact Hb
  isplitl [Hcc0]; · iexact Hcc0
  isplitl [Hcc1]; · iexact Hcc1
  isplitl [HGf_0]; · iexact HGf_0
  isplitl [HGf_1]; · iexact HGf_1
  isplitl [HZs_0 HZs_1 HZs_2 HZs_3 HZs_4 HZs_5 HZs_6 HZs_7 HZs_8 HZs_9 HZs_10 HZs_11 HZs_12 HZs_13 HZs_14 HZs_15 HZs_16 HZs_17 HZs_18 HZs_19 HZs_20 HZs_21 HZs_22 HZs_23 HZs_24 HZs_25 HZs_26 HZs_27 HZs_28 HZs_29 HZs_30 HZs_31]
  · iapply (Entails.of_eq (list32 _).symm)
    isplitl [HZs_0]; · iexact HZs_0
    isplitl [HZs_1]; · iexact HZs_1
    isplitl [HZs_2]; · iexact HZs_2
    isplitl [HZs_3]; · iexact HZs_3
    isplitl [HZs_4]; · iexact HZs_4
    isplitl [HZs_5]; · iexact HZs_5
    isplitl [HZs_6]; · iexact HZs_6
    isplitl [HZs_7]; · iexact HZs_7
    isplitl [HZs_8]; · iexact HZs_8
    isplitl [HZs_9]; · iexact HZs_9
    isplitl [HZs_10]; · iexact HZs_10
    isplitl [HZs_11]; · iexact HZs_11
    isplitl [HZs_12]; · iexact HZs_12
    isplitl [HZs_13]; · iexact HZs_13
    isplitl [HZs_14]; · iexact HZs_14
    isplitl [HZs_15]; · iexact HZs_15
    isplitl [HZs_16]; · iexact HZs_16
    isplitl [HZs_17]; · iexact HZs_17
    isplitl [HZs_18]; · iexact HZs_18
    isplitl [HZs_19]; · iexact HZs_19
    isplitl [HZs_20]; · iexact HZs_20
    isplitl [HZs_21]; · iexact HZs_21
    isplitl [HZs_22]; · iexact HZs_22
    isplitl [HZs_23]; · iexact HZs_23
    isplitl [HZs_24]; · iexact HZs_24
    isplitl [HZs_25]; · iexact HZs_25
    isplitl [HZs_26]; · iexact HZs_26
    isplitl [HZs_27]; · iexact HZs_27
    isplitl [HZs_28]; · iexact HZs_28
    isplitl [HZs_29]; · iexact HZs_29
    isplitl [HZs_30]; · iexact HZs_30
    iexact HZs_31
  isplitl [HZr_0 HZr_1 HZr_2 HZr_3 HZr_4 HZr_5 HZr_6 HZr_7 HZr_8 HZr_9 HZr_10 HZr_11 HZr_12 HZr_13 HZr_14 HZr_15 HZr_16 HZr_17 HZr_18 HZr_19 HZr_20 HZr_21 HZr_22 HZr_23 HZr_24 HZr_25 HZr_26 HZr_27 HZr_28 HZr_29 HZr_30 HZr_31]
  · iapply (Entails.of_eq (list32 _).symm)
    isplitl [HZr_0]; · iexact HZr_0
    isplitl [HZr_1]; · iexact HZr_1
    isplitl [HZr_2]; · iexact HZr_2
    isplitl [HZr_3]; · iexact HZr_3
    isplitl [HZr_4]; · iexact HZr_4
    isplitl [HZr_5]; · iexact HZr_5
    isplitl [HZr_6]; · iexact HZr_6
    isplitl [HZr_7]; · iexact HZr_7
    isplitl [HZr_8]; · iexact HZr_8
    isplitl [HZr_9]; · iexact HZr_9
    isplitl [HZr_10]; · iexact HZr_10
    isplitl [HZr_11]; · iexact HZr_11
    isplitl [HZr_12]; · iexact HZr_12
    isplitl [HZr_13]; · iexact HZr_13
    isplitl [HZr_14]; · iexact HZr_14
    isplitl [HZr_15]; · iexact HZr_15
    isplitl [HZr_16]; · iexact HZr_16
    isplitl [HZr_17]; · iexact HZr_17
    isplitl [HZr_18]; · iexact HZr_18
    isplitl [HZr_19]; · iexact HZr_19
    isplitl [HZr_20]; · iexact HZr_20
    isplitl [HZr_21]; · iexact HZr_21
    isplitl [HZr_22]; · iexact HZr_22
    isplitl [HZr_23]; · iexact HZr_23
    isplitl [HZr_24]; · iexact HZr_24
    isplitl [HZr_25]; · iexact HZr_25
    isplitl [HZr_26]; · iexact HZr_26
    isplitl [HZr_27]; · iexact HZr_27
    isplitl [HZr_28]; · iexact HZr_28
    isplitl [HZr_29]; · iexact HZr_29
    isplitl [HZr_30]; · iexact HZr_30
    iexact HZr_31
  isplitl [HP_0 HP_1 HP_2 HP_3 HP_4 HP_5 HP_6 HP_7 HP_8 HP_9]
  · iapply (Entails.of_eq (list10 _).symm)
    isplitl [HP_0]; · iapply (sent_free m c 0 (by decide)); iexact HP_0
    isplitl [HP_1]; · iapply (sent_free m c 1 (by decide)); iexact HP_1
    isplitl [HP_2]; · iapply (sent_free m c 2 (by decide)); iexact HP_2
    isplitl [HP_3]; · iapply (sent_free m c 3 (by decide)); iexact HP_3
    isplitl [HP_4]; · iapply (sent_free m c 4 (by decide)); iexact HP_4
    isplitl [HP_5]; · iapply (sent_free m c 5 (by decide)); iexact HP_5
    isplitl [HP_6]; · iapply (sent_free m c 6 (by decide)); iexact HP_6
    isplitl [HP_7]; · iapply (sent_free m c 7 (by decide)); iexact HP_7
    isplitl [HP_8]; · iapply (sent_free m c 8 (by decide)); iexact HP_8
    iapply (sent_free m c 9 (by decide)); iexact HP_9
  isplitl [HX_0 HX_1 HX_2 HX_3 HX_4 HX_5 HX_6 HX_7 HX_8 HX_9]
  · iapply (Entails.of_eq (list10 _).symm)
    isplitl [HX_0]; · iexact HX_0
    isplitl [HX_1]; · iexact HX_1
    isplitl [HX_2]; · iexact HX_2
    isplitl [HX_3]; · iexact HX_3
    isplitl [HX_4]; · iexact HX_4
    isplitl [HX_5]; · iexact HX_5
    isplitl [HX_6]; · iexact HX_6
    isplitl [HX_7]; · iexact HX_7
    isplitl [HX_8]; · iexact HX_8
    iexact HX_9
  iapply (Entails.of_eq (list32 _).symm)
  isplitl [HP_10 HP_11]; · iapply (Entails.of_eq (halves m c 0 10 11 (by decide)).symm); isplitl [HP_10] <;> iassumption
  isplitl [HP_12 HP_13]; · iapply (Entails.of_eq (halves m c 1 12 13 (by decide)).symm); isplitl [HP_12] <;> iassumption
  isplitl [HP_14 HP_15]; · iapply (Entails.of_eq (halves m c 2 14 15 (by decide)).symm); isplitl [HP_14] <;> iassumption
  isplitl [HP_16 HP_17]; · iapply (Entails.of_eq (halves m c 3 16 17 (by decide)).symm); isplitl [HP_16] <;> iassumption
  isplitl [HP_18 HP_19]; · iapply (Entails.of_eq (halves m c 4 18 19 (by decide)).symm); isplitl [HP_18] <;> iassumption
  isplitl [HP_20 HP_21]; · iapply (Entails.of_eq (halves m c 5 20 21 (by decide)).symm); isplitl [HP_20] <;> iassumption
  isplitl [HP_22 HP_23]; · iapply (Entails.of_eq (halves m c 6 22 23 (by decide)).symm); isplitl [HP_22] <;> iassumption
  isplitl [HP_31]; · iapply (Entails.of_eq (show sendPay m c 31 = recvPay m c 7 from (pass m c 31 (by decide)).symm)); iexact HP_31
  isplitl [HA_8]; · iexact HA_8
  isplitl [HA_9]; · iexact HA_9
  isplitl [HA_10]; · iexact HA_10
  isplitl [HP_24]; · iapply (Entails.of_eq (show sendPay m c 24 = recvPay m c 11 from (pass m c 24 (by decide)).symm)); iexact HP_24
  isplitl [HA_12]; · iexact HA_12
  isplitl [HP_26]; · iapply (Entails.of_eq (show sendPay m c 26 = recvPay m c 13 from (pass m c 26 (by decide)).symm)); iexact HP_26
  isplitl [HA_14]; · iexact HA_14
  isplitl [HP_28]; · iapply (Entails.of_eq (show sendPay m c 28 = recvPay m c 15 from (pass m c 28 (by decide)).symm)); iexact HP_28
  isplitl [HA_16]; · iexact HA_16
  isplitl [HP_30]; · iapply (Entails.of_eq (show sendPay m c 30 = recvPay m c 17 from (pass m c 30 (by decide)).symm)); iexact HP_30
  isplitl [HP_25]; · iapply (Entails.of_eq (show sendPay m c 25 = recvPay m c 18 from (pass m c 25 (by decide)).symm)); iexact HP_25
  isplitl [HA_19]; · iexact HA_19
  isplitl [HP_27]; · iapply (Entails.of_eq (show sendPay m c 27 = recvPay m c 20 from (pass m c 27 (by decide)).symm)); iexact HP_27
  isplitl [HA_21]; · iexact HA_21
  isplitl [HP_29]; · iapply (Entails.of_eq (show sendPay m c 29 = recvPay m c 22 from (pass m c 29 (by decide)).symm)); iexact HP_29
  isplitl [HA_23]; · iexact HA_23
  isplitl [HA_24]; · iexact HA_24
  isplitl [HA_25]; · iexact HA_25
  isplitl [HA_26]; · iexact HA_26
  isplitl [HA_27]; · iexact HA_27
  isplitl [HA_28]; · iexact HA_28
  isplitl [HA_29]; · iexact HA_29
  isplitl [HA_30]; · iexact HA_30
  iexact HA_31

end Cert.Swap
-- ==== Proof.Pieces.lean ====
/-
The buffers in pieces: the result and the send buffer by rows, the staging buffer by slots, and of the input the chunks
a device sends itself.
-/
module

public import proofs.«01_k».proof.Proof.Body

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Which elements a piece has -/

theorem mem_o (k : Fin 32) (i : S1x4096x2048.Idx) : i ∈ (oSl k).view.set ↔ (i 1).val / 128 = k.val := by
  rw [show (oSl k).view.set = (Rect.unit (s := S1x4096x2048) ![0, 128 * k.val, 0] S1x128x2048.size (oInb k)).set from
    View.set_slice_whole _ _, Rect.mem_set_unit]
  constructor
  · intro h
    have h1 : 128 * k.val ≤ (i 1).val ∧ (i 1).val < 128 * k.val + 128 := h 1
    omega
  · intro h a
    have h0 : (i 0).val < 1 := (i 0).isLt
    have h2 : (i 2).val < 2048 := (i 2).isLt
    fin_cases a
    · exact ⟨Nat.zero_le _, by show (i 0).val < 0 + 1; omega⟩
    · exact ⟨by show 128 * k.val ≤ (i 1).val; omega, by show (i 1).val < 128 * k.val + 128; omega⟩
    · exact ⟨Nat.zero_le _, by show (i 2).val < 0 + 2048; omega⟩

theorem mem_x (k : Fin 32) (i : S1x4096x2048.Idx) : i ∈ (xSl k).view.set ↔ (i 1).val / 128 = k.val := by
  rw [show (xSl k).view.set = (oSl k).view.set from (View.set_slice_whole main_arg0 _).trans (View.set_slice_whole main_v1 _).symm]
  exact mem_o k i

theorem mem_s (j : Fin 10) (i : S1x1280x2048.Idx) : i ∈ (sSl j).view.set ↔ (i 1).val / 128 = j.val := by
  rw [show (sSl j).view.set = (Rect.unit (s := S1x1280x2048) ![0, 128 * j.val, 0] S1x128x2048.size (sInb j)).set from
    View.set_slice_whole _ _, Rect.mem_set_unit]
  constructor
  · intro h
    have h1 : 128 * j.val ≤ (i 1).val ∧ (i 1).val < 128 * j.val + 128 := h 1
    omega
  · intro h a
    have h0 : (i 0).val < 1 := (i 0).isLt
    have h2 : (i 2).val < 2048 := (i 2).isLt
    fin_cases a
    · exact ⟨Nat.zero_le _, by show (i 0).val < 0 + 1; omega⟩
    · exact ⟨by show 128 * j.val ≤ (i 1).val; omega, by show (i 1).val < 128 * j.val + 128; omega⟩
    · exact ⟨Nat.zero_le _, by show (i 2).val < 0 + 2048; omega⟩

theorem mem_g (b : Fin 2) (i : S2x1x128x2048.Idx) : i ∈ (gSl b).view.set ↔ (i 0).val = b.val := by
  rw [show (gSl b).view.set = (Rect.unit (s := S2x1x128x2048) ![b.val, 0, 0, 0] S1x1x128x2048.size (gInb b)).set from
    (View.set_reshape _ _).trans (View.set_slice_whole _ _), Rect.mem_set_unit]
  constructor
  · intro h
    have h1 : b.val ≤ (i 0).val ∧ (i 0).val < b.val + 1 := h 0
    omega
  · intro h a
    have h1 : (i 1).val < 1 := (i 1).isLt
    have h2 : (i 2).val < 128 := (i 2).isLt
    have h3 : (i 3).val < 2048 := (i 3).isLt
    fin_cases a
    · exact ⟨by show b.val ≤ (i 0).val; omega, by show (i 0).val < b.val + 1; omega⟩
    · exact ⟨Nat.zero_le _, by show (i 1).val < 0 + 1; omega⟩
    · exact ⟨Nat.zero_le _, by show (i 2).val < 0 + 128; omega⟩
    · exact ⟨Nat.zero_le _, by show (i 3).val < 0 + 2048; omega⟩

/-! ## Cutting and joining -/

omit [FloatOps F] in
theorem some_of {A : Type} (Φ : A → sProp 𝕄) (a : A) : Φ a ⊢ iprop(∃ a, Φ a) := by
  iintro H; iexists a; iexact H

section Cut
variable {T : Type} [Fintype T] [DecidableEq T] {ℓ : Loc nD τ sig} (Kt : T → Finset (Idx ℓ))
  (hd : ∀ t t', t ≠ t' → Disjoint (Kt t) (Kt t')) (hc : ∀ i, ∃ t, i ∈ Kt t)

include hc in
omit [DecidableEq T] in
theorem cover : Finset.univ.biUnion Kt = Finset.univ :=
  Finset.eq_univ_iff_forall.mpr fun i => by
    obtain ⟨t, ht⟩ := hc i
    exact Finset.mem_biUnion.mpr ⟨t, Finset.mem_univ t, ht⟩

include hd hc in
omit [FloatOps F] in
theorem cut_eq (f : Buf (Elt F) ℓ) :
    (ℓ ↦{fullShare} f : sProp 𝕄) = bigSep Finset.univ fun t => ℓ ↦[Kt t]{fullShare} f := by
  rw [← pointsTo_biUnion Finset.univ Kt (fun t _ t' _ h => hd t t' h), cover Kt hc]

include hd hc in
omit [FloatOps F] in
theorem cut_ex : (iprop(∃ f : Buf (Elt F) ℓ, ℓ ↦{fullShare} f) : sProp 𝕄) ⊢ bigSep Finset.univ fun t => iprop(∃ f : Buf (Elt F) ℓ, ℓ ↦[Kt t]{fullShare} f) := by
  iintro ⟨%f, H⟩
  ihave H := (Entails.of_eq (cut_eq Kt hd hc f)) $$ H
  iapply (show (bigSep Finset.univ fun t => (ℓ ↦[Kt t]{fullShare} f : sProp 𝕄)) ⊢ bigSep Finset.univ fun t => iprop(∃ f : Buf (Elt F) ℓ, ℓ ↦[Kt t]{fullShare} f) from
    bigSep_mono fun t _ => some_of (F := F) (fun f : Buf (Elt F) ℓ => ℓ ↦[Kt t]{fullShare} f) f)
  iexact H

include hd hc in
omit [FloatOps F] in
theorem join_ex (f₀ : Buf (Elt F) ℓ) :
    (bigSep Finset.univ fun t => iprop(∃ f : Buf (Elt F) ℓ, ℓ ↦[Kt t]{fullShare} f)) ⊢ (iprop(∃ f : Buf (Elt F) ℓ, ℓ ↦{fullShare} f) : sProp 𝕄) := by
  haveI : Nonempty (Buf (Elt F) ℓ) := ⟨f₀⟩
  iintro H
  ihave H := (BI.bigSep_exists_pi Finset.univ (fun (t : T) (f : Buf (Elt F) ℓ) => (ℓ ↦[Kt t]{fullShare} f : sProp 𝕄))) $$ H
  icases H with ⟨%fs, H⟩
  ihave H := (pointsTo_biUnion_join Finset.univ Kt fs f₀ (fun t _ t' _ h => hd t t' h)) $$ H
  icases H with ⟨%g, -, H⟩
  rw [cover Kt hc]
  iexists g; iexact H

end Cut

theorem rch_disj (t t' : Fin 32) (h : t ≠ t') : Disjoint (oSl (rch c t)).view.set (oSl (rch c t')).view.set :=
  Finset.disjoint_left.mpr fun i hi hi' =>
    h (rch_inj c (Fin.ext (((mem_o _ i).mp hi).symm.trans ((mem_o _ i).mp hi'))))
theorem rch_cover (i : S1x4096x2048.Idx) : ∃ t, i ∈ (oSl (rch c t)).view.set := by
  have h1 : (i 1).val < 4096 := (i 1).isLt
  obtain ⟨t, ht⟩ := (rch_bij c).2 ⟨(i 1).val / 128, by omega⟩
  exact ⟨t, (mem_o _ i).mpr (by rw [ht])⟩

omit [FloatOps F] in
/-- The result, as the places where the transfers land. -/
theorem result_cut (f : FVec F S1x4096x2048 .bf16) :
    (((c : Thread nD τ).loc main_v1) ↦{fullShare} f : sProp 𝕄) = bigSep Finset.univ fun t => oP c (rch c t) fullShare f :=
  cut_eq (ℓ := (c : Thread nD τ).loc main_v1) (fun t => (oSl (rch c t)).view.set) (rch_disj c) (rch_cover c) f

omit [FloatOps F] in
theorem fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem fin2 (Φ : Fin 2 → sProp 𝕄) : bigSep Finset.univ Φ = iprop(Φ 0 ∗ Φ 1) :=
  bigSep_univ_eq_bigSepL [0, 1] (by decide) (by decide) Φ

omit [FloatOps F] in
/-- Before the run: any contents, and sorted by the axis along which the transfer comes. -/
theorem result_lands (f : FVec F S1x4096x2048 .bf16) :
    (((c : Thread nD τ).loc main_v1) ↦{fullShare} f : sProp 𝕄)
      ⊢ iprop((bigSep (along 0) fun t => land (F := F) c t) ∗ (bigSep (along 1) fun t => land (F := F) c t) ∗ bigSep (along 2) fun t => land (F := F) c t) := by
  rw [result_cut, ← fin3 (F := F) fun k => bigSep (along k) fun t => land (F := F) c t]
  refine (show (bigSep Finset.univ fun t => (oP c (rch c t) fullShare f : sProp 𝕄)) ⊢ bigSep Finset.univ fun t => land (F := F) c t from
    bigSep_mono fun t _ => some_of (F := F) (fun f : FVec F S1x4096x2048 .bf16 => oP c (rch c t) fullShare f) f).trans (Entails.of_eq ?_)
  have h := Idealize.SL.BI.bigSep_fiberwise Finset.univ kind fun t => (land (F := F) c t : sProp 𝕄)
  rw [show Finset.image kind Finset.univ = (Finset.univ : Finset (Fin 3)) from by decide] at h
  exact h

omit [FloatOps F] in
theorem staging_cut : (iprop(∃ f : Buf (Elt F) ((c : Thread nD τ).loc cc0_scratch0), ((c : Thread nD τ).loc cc0_scratch0) ↦{fullShare} f) : sProp 𝕄)
    ⊢ iprop(Gf (F := F) c 0 ∗ Gf (F := F) c 1) := by
  rw [← fin2 (F := F) fun b => Gf (F := F) c b]
  exact cut_ex (ℓ := (c : Thread nD τ).loc cc0_scratch0) (fun b : Fin 2 => (gSl b).view.set)
    (fun t t' h => Finset.disjoint_left.mpr fun i hi hi' => h (Fin.ext (((mem_g _ i).mp hi).symm.trans ((mem_g _ i).mp hi'))))
    (fun i => ⟨⟨(i 0).val, (i 0).isLt⟩, (mem_g _ i).mpr rfl⟩)

omit [FloatOps F] in
theorem staging_join (f₀ : FVec F S2x1x128x2048 .f32) : (iprop(Gf (F := F) c 0 ∗ Gf (F := F) c 1) : sProp 𝕄)
    ⊢ iprop(∃ f : Buf (Elt F) ((c : Thread nD τ).loc cc0_scratch0), ((c : Thread nD τ).loc cc0_scratch0) ↦{fullShare} f) := by
  rw [← fin2 (F := F) fun b => Gf (F := F) c b]
  exact join_ex (ℓ := (c : Thread nD τ).loc cc0_scratch0) (fun b : Fin 2 => (gSl b).view.set)
    (fun t t' h => Finset.disjoint_left.mpr fun i hi hi' => h (Fin.ext (((mem_g _ i).mp hi).symm.trans ((mem_g _ i).mp hi'))))
    (fun i => ⟨⟨(i 0).val, (i 0).isLt⟩, (mem_g _ i).mpr rfl⟩) f₀

theorem send_disj (t t' : Fin 10) (h : t ≠ t') : Disjoint (sSl t).view.set (sSl t').view.set :=
  Finset.disjoint_left.mpr fun i hi hi' => h (Fin.ext (((mem_s _ i).mp hi).symm.trans ((mem_s _ i).mp hi')))
theorem send_cover (i : S1x1280x2048.Idx) : ∃ t, i ∈ (sSl t).view.set := by
  have h1 : (i 1).val < 1280 := (i 1).isLt
  exact ⟨⟨(i 1).val / 128, by omega⟩, (mem_s _ i).mpr rfl⟩

omit [FloatOps F] in
theorem send_cut : (iprop(∃ f : Buf (Elt F) ((c : Thread nD τ).loc cc0_scratch1), ((c : Thread nD τ).loc cc0_scratch1) ↦{fullShare} f) : sProp 𝕄)
    ⊢ bigSep Finset.univ fun j => Sf (F := F) c j :=
  cut_ex (ℓ := (c : Thread nD τ).loc cc0_scratch1) (fun j : Fin 10 => (sSl j).view.set) send_disj send_cover
omit [FloatOps F] in
theorem send_join (f₀ : FVec F S1x1280x2048 .bf16) : (bigSep Finset.univ fun j => Sf (F := F) c j)
    ⊢ iprop(∃ f : Buf (Elt F) ((c : Thread nD τ).loc cc0_scratch1), ((c : Thread nD τ).loc cc0_scratch1) ↦{fullShare} f) :=
  join_ex (ℓ := (c : Thread nD τ).loc cc0_scratch1) (fun j : Fin 10 => (sSl j).view.set) send_disj send_cover f₀

/-! ## The input -/

theorem direct_inj : ∀ t t' : Fin 10, t ≠ t' → chunk (Fin.ofNat 32 t.val) c ≠ chunk (Fin.ofNat 32 t'.val) c := by
  revert c; decide +kernel
theorem direct_disj (t t' : Fin 10) (h : t ≠ t') :
    Disjoint (xSl (chunk (Fin.ofNat 32 t.val) c)).view.set (xSl (chunk (Fin.ofNat 32 t'.val) c)).view.set :=
  Finset.disjoint_left.mpr fun i hi hi' =>
    direct_inj c t t' h (Fin.ext (((mem_x _ i).mp hi).symm.trans ((mem_x _ i).mp hi')))

/-- The elements of the input a device doesn't send itself. -/
def unsent : Finset S1x4096x2048.Idx :=
  Finset.univ \ Finset.univ.biUnion fun t : Fin 10 => (xSl (chunk (Fin.ofNat 32 t.val) c)).view.set
def Xrest : sProp 𝕄 := ((c : Thread nD τ).loc main_arg0) ↦[unsent c]{fullShare} X m c

theorem input_cut : (((c : Thread nD τ).loc main_arg0) ↦{fullShare} X m c : sProp 𝕄)
    ⊣⊢ iprop((bigSep Finset.univ fun t : Fin 10 => xP m c (chunk (Fin.ofNat 32 t.val) c)) ∗ Xrest m c) := by
  have h := pointsTo_biUnion (ℓ := (c : Thread nD τ).loc main_arg0) (q := fullShare) (f := X m c) (Ix := Unit) (Name := ℕ) (U := UU) (Lvl := ℕ) (Val := Elt F)
    Finset.univ (fun t : Fin 10 => (xSl (chunk (Fin.ofNat 32 t.val) c)).view.set) (fun t _ t' _ h => direct_disj c t t' h)
  have h' : (bigSep Finset.univ fun t : Fin 10 => xP m c (chunk (Fin.ofNat 32 t.val) c)) = _ := h.symm
  rw [h']
  exact pointsTo_split_subset (Finset.subset_univ _)

end Cert.Swap

end
-- ==== Proof.Deal.lean ====
/-
What the launch deals: the cells of all devices with their invariants, the duty tokens, each to the device that pays the
duty, and the credit for what the neighbours owe.
-/
module

public import proofs.«01_k».proof.Proof.Pieces

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

/-- The kernel's own semaphores. -/
abbrev osem (i : Fin 66) : SemLoc sig := .dma (i.succ : Fin 67)

theorem ownSemFacts : Pipeline.OwnSemFacts cfg0.spec osem := by decide +kernel

def role : Unit ⊕ (Fin 2 ⊕ (Fin 32 ⊕ Fin 32)) → Fin 67
  | .inl _ => 0
  | .inr (.inl b) => copyIx b
  | .inr (.inr (.inl t)) => sendIx t
  | .inr (.inr (.inr t)) => recvIx t

theorem role_inj : Function.Injective role := by decide +kernel
theorem role_bij : Function.Bijective role :=
  (Fintype.bijective_iff_injective_and_card role).mpr ⟨role_inj, by decide⟩

omit [FloatOps F] in
theorem unit1 (Φ : Unit → sProp 𝕄) : bigSep Finset.univ Φ = Φ () :=
  bigSep_univ_eq_bigSepL [()] (by decide) (by decide) Φ

omit [FloatOps F] in
/-- Over a device's cells is over the barrier, the local copies, the sends and the receives. -/
theorem by_role (Φ : Fin 67 → sProp 𝕄) : bigSep Finset.univ Φ
    = iprop(Φ 0 ∗ (bigSep Finset.univ fun b => Φ (copyIx b)) ∗ (bigSep Finset.univ fun t => Φ (sendIx t)) ∗ bigSep Finset.univ fun t => Φ (recvIx t)) := by
  rw [bigSep_univ_equiv (Equiv.ofBijective role role_bij) Φ, BI.bigSep_univ_sum, BI.bigSep_univ_sum, BI.bigSep_univ_sum, unit1]
  rfl

def nextE : Unit ⊕ Fin 66 ≃ Fin 67 :=
  Equiv.ofBijective (fun | .inl _ => 0 | .inr i => i.succ)
    ((Fintype.bijective_iff_injective_and_card _).mpr ⟨by decide +kernel, by decide⟩)

omit [FloatOps F] in
theorem by_next (Φ : Fin 67 → sProp 𝕄) : bigSep Finset.univ Φ = iprop(Φ 0 ∗ bigSep Finset.univ fun i : Fin 66 => Φ i.succ) := by
  rw [bigSep_univ_equiv nextE Φ, BI.bigSep_univ_sum, unit1]
  rfl

theorem csem_succ (i : Fin 66) : csem i.succ = osem i := by
  unfold csem; rw [if_neg (Fin.succ_ne_zero i)]

theorem csem_inj : Function.Injective csem := by
  intro k k' h
  unfold csem at h
  split at h <;> split at h
  · rename_i a b; rw [a, b]
  · cases h
  · cases h
  · cases h; rfl

theorem kcell_injective : Function.Injective (kcell : Dev nD × Fin 67 → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_injective⟩

/-! ## The tokens of a device's cells -/

abbrev TI : Type := Fin 3 ⊕ (Fin 32 ⊕ (Fin 32 ⊕ Fin 2 × Fin 5))

def tix : TI → Fin 67 × Fin 5 × Fin 3
  | .inl d => (0, 0, d)
  | .inr (.inl t) => (sendIx t, 0, 0)
  | .inr (.inr (.inl t)) => (recvIx t, 0, 0)
  | .inr (.inr (.inr p)) => (copyIx p.1, p.2, 0)

theorem tix_inj : Function.Injective tix := by decide +kernel

def tokOf (ci : Dev nD × TI) : GSem nD τ sig × ℕ × Fin 3 := (kcell (ci.1, (tix ci.2).1), (tix ci.2).2.1.val, (tix ci.2).2.2)

theorem tokOf_injective : Function.Injective tokOf := by
  rintro ⟨c, i⟩ ⟨c', i'⟩ h
  have h1 := kcell_injective (congrArg Prod.fst h)
  have h2 : (tix i).2.1 = (tix i').2.1 := Fin.ext (congrArg (fun x => x.2.1) h)
  have h3 : (tix i).2.2 = (tix i').2.2 := congrArg (fun x => x.2.2) h
  have h4 : tix i = tix i' := Prod.ext (congrArg Prod.snd h1) (Prod.ext h2 h3)
  rw [show c = c' from congrArg Prod.fst h1, tix_inj h4]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of the two local copies' cells. -/
def copyToks (c : Dev nD) : sProp 𝕄 :=
  bigSep Finset.univ fun b : Fin 2 => bigSep (Finset.Ico 0 5) fun r => dutyTok ER (copyCell c b) r (0 : Fin 3)

/-- The tokens of the cells of `c`, -/
def toks (c : Dev nD) : sProp 𝕄 :=
  iprop((bigSep Finset.univ fun d : Fin 3 => dutyTok ER (barCell c) 0 d) ∗ (bigSep Finset.univ fun t => dutyTok ER (sendCell c t) 0 (0 : Fin 3))
    ∗ (bigSep Finset.univ fun t => dutyTok ER (recvCell c t) 0 (0 : Fin 3)) ∗ copyToks c)
/-- and of the duties `c` pays. -/
def payToks (c : Dev nD) : sProp 𝕄 :=
  iprop((bigSep Finset.univ fun d : Fin 3 => dutyTok ER (barCell (nb d c)) 0 d) ∗ (bigSep Finset.univ fun t => dutyTok ER (sendCell c t) 0 (0 : Fin 3))
    ∗ (bigSep Finset.univ fun t => dutyTok ER (recvCell (peer t c) t) 0 (0 : Fin 3)) ∗ copyToks c)

omit [FloatOps F] in
theorem upto5 (Φ : ℕ → sProp 𝕄) : (bigSep Finset.univ fun r : Fin 5 => Φ r.val) = bigSep (Finset.Ico 0 5) Φ := by
  rw [show Finset.Ico 0 5 = (Finset.univ : Finset (Fin 5)).map Fin.valEmbedding from by decide, bigSep_map]
  rfl

theorem tok_bar (c : Dev nD) (d : Fin 3) : tokOf (c, .inl d) = (barCell c, 0, d) := rfl
theorem tok_send (c : Dev nD) (t : Fin 32) : tokOf (c, .inr (.inl t)) = (sendCell c t, 0, 0) := by
  rw [← kcell_send]; rfl
theorem tok_recv (c : Dev nD) (t : Fin 32) : tokOf (c, .inr (.inr (.inl t))) = (recvCell c t, 0, 0) := by
  rw [← kcell_recv]; rfl
theorem tok_copy (c : Dev nD) (b : Fin 2) (r : Fin 5) : tokOf (c, .inr (.inr (.inr (b, r)))) = (copyCell c b, r.val, 0) := by
  rw [← kcell_copy]; rfl

omit [FloatOps F] in
theorem sep_eq {A A' B B' : sProp 𝕄} (h : A = A') (h' : B = B') : iprop(A ∗ B) = iprop(A' ∗ B') := by rw [h, h']

omit [FloatOps F] in
theorem toks_eq (c : Dev nD) :
    (bigSep Finset.univ fun i : TI => (dutyTok ER (tokOf (c, i)).1 (tokOf (c, i)).2.1 (tokOf (c, i)).2.2 : sProp 𝕄)) = toks c := by
  rw [BI.bigSep_univ_sum, BI.bigSep_univ_sum, BI.bigSep_univ_sum, bigSep_univ_prod]
  unfold toks copyToks
  refine sep_eq (bigSep_congr fun d _ => by rw [tok_bar]) (sep_eq (bigSep_congr fun t _ => by rw [tok_send]) (sep_eq (bigSep_congr fun t _ => by rw [tok_recv])
    (bigSep_congr fun b _ => ?_)))
  rw [← upto5 (F := F) fun r => dutyTok ER (copyCell c b) r (0 : Fin 3)]
  exact bigSep_congr fun r _ => by rw [tok_copy]

omit [FloatOps F] in
theorem turn {A : Type} [Fintype A] (e : A → Dev nD ≃ Dev nD) (Φ : Dev nD → A → sProp 𝕄) :
    (bigSep Finset.univ fun c => bigSep Finset.univ fun a => Φ c a) = bigSep Finset.univ fun c => bigSep Finset.univ fun a => Φ (e a c) a := by
  rw [BI.bigSep_univ_comm, BI.bigSep_univ_comm fun c a => Φ (e a c) a]
  exact bigSep_congr fun a _ => bigSep_univ_equiv (e a) fun c => Φ c a

omit [FloatOps F] in
/-- Each token goes to the device that pays the duty. -/
theorem toks_around : (bigSep Finset.univ fun c : Dev nD => (toks (F := F) c)) = bigSep Finset.univ fun c : Dev nD => payToks (F := F) c := by
  unfold toks payToks
  rw [bigSep_sep', bigSep_sep', bigSep_sep', bigSep_sep', bigSep_sep', bigSep_sep',
    turn (F := F) nbE fun c d => dutyTok ER (barCell c) 0 d,
    turn (F := F) (fun t => nbE (kind t)) fun c t => dutyTok ER (recvCell c t) 0 (0 : Fin 3)]
  rfl

/-! ## From the launch element to the devices -/

def G (c : Dev nD) : sProp 𝕄 :=
  iprop((bigSep Finset.univ fun k : Fin 67 => roundState ER (swapRd m) (kcell (c, k)) 0)
    ∗ ((bigSep Finset.univ fun k : Fin 67 => atPos ER (kcell (c, k)) 0 ∅ 0) ∗ (bigSep Finset.univ fun k : Fin 67 => reached ER (kcell (c, k)) 0))
    ∗ toks c)

def records (K : Dev nD × Fin 67 → ℕ) : sProp 𝕄 :=
  iprop((bigSep Finset.univ fun ck => cellInv ER (swapRd m) (K ck) (kcell ck))
    ∗ bigSep Finset.univ fun ck : Dev nD × Fin 67 => reached ER (kcell ck) 0)

instance records_persistent (K : Dev nD × Fin 67 → ℕ) : BI.Persistent (records m K) := by unfold records; infer_instance

def linear (c : Dev nD) : sProp 𝕄 := iprop((bigSep Finset.univ fun k : Fin 67 => atPos ER (kcell (c, k)) 0 ∅ 0) ∗ payToks c)

def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 67 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq (F := F) c
  iintro HX
  imod (Rounds.fund ER (swapRd m) allCells allToks) $$ HX with ⟨Hst, Hr, Hat, Htok⟩
  imodintro
  ihave Hst' := (Entails.of_eq (hX fun g => roundState ER (swapRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All a device's cells, at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 67 => semVal (kcell (c, k)) 0 : sProp 𝕄) := by
  rw [by_next, unscopedSems0_eq]
  unfold Pipeline.ownSems0
  exact sep_eq rfl (bigSep_congr fun i _ => by unfold kcell; rw [csem_succ])

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (swapRd m) κ (kcell (c, k))))
          ∗ ((bigSep Finset.univ fun k : Fin 67 => atPos ER (kcell (c, k)) 0 ∅ 0) ∗ (bigSep Finset.univ fun k : Fin 67 => reached ER (kcell (c, k)) 0))
          ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 67 => semVal (kcell (c, k)) 0) ∗ bigSep Finset.univ fun k : Fin 67 => roundState ER (swapRd m) (kcell (c, k)) 0)
      ⊢ (|={Set.univ}=> bigSep Finset.univ fun k => iprop(∃ κ : ℕ, cellInv ER (swapRd m) κ (kcell (c, k))) : sProp 𝕄) from by
        rw [← bigSep_sep']
        exact (bigSep_mono fun k _ => (Rounds.body_intro ER (swapRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 67 → ℕ) (c : Dev nD) : iprop(records m K ∗ linear c) ⊢ G' m c := by
  unfold G'; iintro H; iexists K; iexact H

theorem regroup :
    (bigSep Finset.univ fun c : Dev nD => iprop((bigSep Finset.univ fun k => iprop(∃ κ : ℕ, cellInv ER (swapRd m) κ (kcell (c, k))))
          ∗ ((bigSep Finset.univ fun k : Fin 67 => atPos ER (kcell (c, k)) 0 ∅ 0) ∗ (bigSep Finset.univ fun k : Fin 67 => reached ER (kcell (c, k)) 0))
          ∗ toks c) : sProp 𝕄)
      ⊢ bigSep Finset.univ (G' m) := by
  rw [bigSep_sep', bigSep_sep', bigSep_sep', ← bigSep_univ_prod (fun ck : Dev nD × Fin 67 => iprop(∃ κ : ℕ, cellInv ER (swapRd m) κ (kcell ck))),
    ← bigSep_univ_prod (fun ck : Dev nD × Fin 67 => (reached ER (kcell ck) 0 : sProp 𝕄)), toks_around]
  iintro ⟨HI, ⟨Hat, #HR⟩, Htok⟩
  ihave HK := (BI.bigSep_exists_pi Finset.univ (fun (ck : Dev nD × Fin 67) (κ : ℕ) => (cellInv ER (swapRd m) κ (kcell ck) : sProp 𝕄))) $$ HI
  icases HK with ⟨%K, #HI⟩
  iapply (with_persistent (R := records m K) fun c _ => ghost_intro m K c)
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_eq_iff {a b : Dev nD} : barCell a = barCell b ↔ a = b :=
  ⟨fun h => congrArg (fun g : GSem nD τ sig => g.1.1) h, fun h => h ▸ rfl⟩
theorem recv_eq_iff {a b : Dev nD} {s t : Fin 32} : recvCell a s = recvCell b t ↔ a = b ∧ s = t := by
  constructor
  · intro h
    rw [← kcell_recv, ← kcell_recv] at h
    have h' := kcell_injective h
    have h2 : recvIx s = recvIx t := congrArg Prod.snd h'
    refine ⟨congrArg Prod.fst h', ?_⟩
    have h3 := congrArg dec h2
    rw [dec_recv, dec_recv] at h3
    exact congrArg Prod.snd h3
  · rintro ⟨rfl, rfl⟩; rfl
theorem recv_ne_bar {a b : Dev nD} {t : Fin 32} : recvCell a t ≠ barCell b := fun h => by cases congrArg Prod.snd h

theorem owe_bar (d c : Dev nD) (n : ℕ) : owe d n (barCell c) () = 0 := by
  induction n with
  | zero => rfl
  | succ n ih =>
    unfold owe
    rw [Pi.add_apply, Finsupp.add_apply, ih, tallyAt_ne_cell (fun h => recv_ne_bar h.symm)]; rfl

theorem owe_recv (d c : Dev nD) (t : Fin 32) (n : ℕ) (hn : n ≤ 32) :
    owe d n (recvCell c t) () = if 32 - n ≤ t.val ∧ d = peer t c then N else 0 := by
  induction n with
  | zero => rw [if_neg (fun h => by have := t.isLt; omega)]; rfl
  | succ n ih =>
    unfold owe
    rw [Pi.add_apply, Finsupp.add_apply, ih (by omega), tallyAt_apply]
    have hs : (Fin.ofNat 32 (31 - n) : Fin 32).val = 31 - n := by show (31 - n) % 32 = 31 - n; omega
    by_cases ht : t.val = 31 - n
    · have ht' : Fin.ofNat 32 (31 - n) = t := Fin.ext (hs.trans ht.symm)
      rw [ht', if_neg (fun h => by omega), Nat.zero_add]
      by_cases hd : d = peer t c
      · subst hd; rw [peer_peer, if_pos ⟨rfl, rfl⟩, if_pos ⟨by omega, rfl⟩]
      · rw [if_neg (fun h => hd (by rw [(recv_eq_iff.mp h.1).1, peer_peer])), if_neg (fun h => hd h.2)]
    · have hne : ¬(recvCell c t = recvCell (peer (Fin.ofNat 32 (31 - n)) d) (Fin.ofNat 32 (31 - n)) ∧ () = ()) :=
        fun h => ht (by rw [(recv_eq_iff.mp h.1).2, hs])
      rw [if_neg hne, Nat.add_zero]
      by_cases h : 32 - n ≤ t.val ∧ d = peer t c
      · rw [if_pos h, if_pos ⟨by omega, h.2⟩]
      · rw [if_neg h, if_neg (fun h' => h ⟨by omega, h'.2⟩)]

theorem one_bar (d c : Dev nD) (k : Fin 3) : (tallyAt (barCell (nb k d)) () 1 : CellTallies nD τ sig Unit) (barCell c) () = if d = nb k c then 1 else 0 := by
  rw [tallyAt_apply]
  by_cases h : d = nb k c
  · subst h; rw [nb_nb, if_pos ⟨rfl, rfl⟩, if_pos rfl]
  · rw [if_neg (fun h' => h (by rw [bar_eq_iff.mp h'.1, nb_nb])), if_neg h]

theorem owed_bar (d c : Dev nD) : O₀ d (barCell c) ()
    = (if d = nb 2 c then 1 else 0) + (if d = nb 1 c then 1 else 0) + if d = nb 0 c then 1 else 0 := by
  unfold O₀ O₁ O₂
  rw [Pi.add_apply, Finsupp.add_apply, Pi.add_apply, Finsupp.add_apply, Pi.add_apply, Finsupp.add_apply, owe_bar, one_bar, one_bar, one_bar,
    Nat.zero_add]

theorem owed_recv (d c : Dev nD) (t : Fin 32) : O₀ d (recvCell c t) () = if d = peer t c then N else 0 := by
  unfold O₀ O₁ O₂
  rw [Pi.add_apply, Finsupp.add_apply, Pi.add_apply, Finsupp.add_apply, Pi.add_apply, Finsupp.add_apply, owe_recv d c t 32 le_rfl,
    tallyAt_ne_cell recv_ne_bar, tallyAt_ne_cell recv_ne_bar, tallyAt_ne_cell recv_ne_bar]
  simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (nb 2 c) fun _ => 1, Finset.sum_ite_eq' Finset.univ (nb 1 c) fun _ => 1,
    Finset.sum_ite_eq' Finset.univ (nb 0 c) fun _ => 1, if_pos (Finset.mem_univ _), if_pos (Finset.mem_univ _), if_pos (Finset.mem_univ _)]

theorem launch_recv (c : Dev nD) (t : Fin 32) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (peer t c) fun _ => N, if_pos (Finset.mem_univ _)]

def waited : Unit ⊕ Fin 32 → SemLoc sig
  | .inl _ => .reg barS
  | .inr t => .dma (recvIx t)
theorem waited_inj : Function.Injective waited := by decide +kernel

def creds (c : Dev nD) : sProp 𝕄 :=
  iprop(cred (tallyAt (barCell c) () 3) ∗ bigSep Finset.univ fun t : Fin 32 => cred (tallyAt (recvCell c t) () N))

omit [FloatOps F] in
theorem creds_intro (c : Dev nD) : (Pipeline.launchCred O₀ c : sProp 𝕄) ⊢ creds c := by
  unfold Pipeline.launchCred creds
  refine (show (bigSep Finset.univ fun sm : SemLoc sig => cred (tallyOn ((c.tc : Thread nD τ), sm) (launchCredit (Pipeline.owing O₀) 0 ((c.tc : Thread nD τ), sm))))
      ⊢ (bigSep (Finset.univ.map ⟨waited, waited_inj⟩) fun sm : SemLoc sig => cred (tallyOn ((c.tc : Thread nD τ), sm) (launchCredit (Pipeline.owing O₀) 0 ((c.tc : Thread nD τ), sm))) : sProp 𝕄)
    from bigSep_subset (Finset.subset_univ _)).trans (Entails.of_eq ?_)
  rw [bigSep_map, BI.bigSep_univ_sum, unit1]
  exact sep_eq (by rw [← launch_bar]; rfl) (bigSep_congr fun t _ => by rw [← launch_recv]; rfl)

end Cert.Swap

end
-- ==== Proof.Run.lean ====
/-
The run of the kernel on all devices, from a launch where every device's second argument is the exchange of two: each
device ends with its result computed, its arguments as they were and all counters at zero.
-/
module

public import proofs.«01_k».proof.Proof.Deal
public import proofs.«01_k».proof.Proof.Gen.KernelIdeal.Points
public import Idealize.ShloMosaic.Lib.Pipeline.CollectiveSegs

@[expose] public section

set_option maxRecDepth 4096

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev initMem : MemSt nD τ sig (Elt F) := ⟨m, fun _ => 0, ρ⟩

/-- The two scratch buffers, -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- the input and the result, as launched -/
def arrays0 (c : Dev nD) : sProp 𝕄 :=
  iprop((((c : Thread nD τ).loc main_arg0) ↦{fullShare} X m c) ∗ (((c : Thread nD τ).loc main_v1) ↦{fullShare} m ((c : Thread nD τ).loc main_v1)))
/-- and after the run. -/
def arrays1 (c : Dev nD) : sProp 𝕄 :=
  iprop((((c : Thread nD τ).loc main_arg0) ↦{fullShare} X m c) ∗ (((c : Thread nD τ).loc main_v1) ↦{fullShare} fin m c))

def sems (c : Dev nD) : sProp 𝕄 :=
  iprop(unscopedSems0 c ∗ Pipeline.ownSems0 (Ix := Unit) (Name := ℕ) (U := UU) (Lvl := ℕ) (Val := Elt F) (τ := τ) osem c)

def start (c : Dev nD) : sProp 𝕄 := iprop((∃ K, Inv m K ∗ linear c) ∗ creds c ∗ arrays0 m c)

def Φ₀ (c : Dev nD) : sProp 𝕄 := iprop(start m c ∗ scratch c)
def Φ₁ (c : Dev nD) : sProp 𝕄 := iprop(sems c ∗ scratch c ∗ arrays1 m c)

def second (c : Dev nD) : (cc0_stg0_0 : Ref sig .tc).ty.Contents (Elt F) := m ((c : Thread nD τ).loc main_arg1)

def dats (_ : Fin 1) (c : Dev nD) : Dat τ (Elt F) Unit ℕ UU ℕ cfg0 c where
  A w := (initMem m ρ).mem ((cfg0.win w).arr.view.loc (c : Thread nD τ))
  after w _ := match w with
    | ⟨0, _⟩ => second m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Into the body and out of it -/

section Body
variable (K : Dev nD × Fin 67 → ℕ) (c : Dev nD)

omit [FloatOps F] in
theorem tx_eq : (bigSep Finset.univ fun t => Tx (F := F) c t)
    = iprop((bigSep Finset.univ fun t => atPos ER (sendCell c t) 0 ∅ 0) ∗ (bigSep Finset.univ fun t => dutyTok ER (sendCell c t) 0 (0 : Fin 3))
      ∗ bigSep Finset.univ fun t => dutyTok ER (recvCell (peer t c) t) 0 (0 : Fin 3)) := by
  unfold Tx; rw [bigSep_sep', bigSep_sep']
omit [FloatOps F] in
theorem rx_eq : (bigSep Finset.univ fun t => Rx (F := F) c t)
    = iprop((bigSep Finset.univ fun t => atPos ER (recvCell c t) 0 ∅ 0) ∗ bigSep Finset.univ fun t => cred (tallyAt (recvCell c t) () N)) := by
  unfold Rx; rw [bigSep_sep']
omit [FloatOps F] in
theorem at_eq : (bigSep Finset.univ fun k : Fin 67 => (atPos ER (kcell (c, k)) 0 ∅ 0 : sProp 𝕄))
    = iprop(atPos ER (barCell c) 0 ∅ 0 ∗ (atPos ER (copyCell c 0) 0 ∅ 0 ∗ atPos ER (copyCell c 1) 0 ∅ 0)
      ∗ (bigSep Finset.univ fun t => atPos ER (sendCell c t) 0 ∅ 0) ∗ bigSep Finset.univ fun t => atPos ER (recvCell c t) 0 ∅ 0) := by
  rw [by_role, fin2, kcell_copy, kcell_copy]
  exact sep_eq rfl (sep_eq rfl (sep_eq (bigSep_congr fun t _ => by rw [kcell_send]) (bigSep_congr fun t _ => by rw [kcell_recv])))
omit [FloatOps F] in
theorem sems_eq : sems (F := F) c
    = iprop(semVal (barCell c) 0 ∗ (semVal (copyCell c 0) 0 ∗ semVal (copyCell c 1) 0)
      ∗ (bigSep Finset.univ fun t => Zs c t) ∗ bigSep Finset.univ fun t => Zr c t) := by
  unfold sems
  rw [sems0_eq, by_role, fin2, kcell_copy, kcell_copy]
  exact sep_eq rfl (sep_eq rfl (sep_eq (bigSep_congr fun t _ => by unfold Zs; rw [kcell_send]) (bigSep_congr fun t _ => by unfold Zr; rw [kcell_recv])))

omit [FloatOps F] in
theorem copyToks_eq : copyToks (F := F) c
    = iprop((bigSep (Finset.Ico 0 5) fun r => dutyTok ER (copyCell c 0) r (0 : Fin 3)) ∗ bigSep (Finset.Ico 0 5) fun r => dutyTok ER (copyCell c 1) r (0 : Fin 3)) := by
  unfold copyToks; rw [fin2]

theorem enter : iprop(Inv m K ∗ linear c ∗ creds c ∗ arrays0 m c ∗ scratch c ∗ Table c ∗ Ob c (O₀ c)) ⊢ iprop(Entry m c ∗ Xrest m c) := by
  unfold linear creds arrays0 scratch payToks Entry Cp Sg
  rw [at_eq, fin3, copyToks_eq, tx_eq, rx_eq]
  iintro ⟨#HI, ⟨⟨HaB, ⟨HaC0, HaC1⟩, HaS, HaR⟩, ⟨HtB0, HtB1, HtB2⟩, HtS, HtR, HtC0, HtC1⟩, ⟨HcB, HcR⟩, ⟨Hx, Hv⟩, ⟨H0, H1⟩, Ht, Ho⟩
  ihave Hx := (input_cut m c).1 $$ Hx
  icases Hx with ⟨Hx, Hrest⟩
  ihave Hv := (result_lands (F := F) c _) $$ Hv
  icases Hv with ⟨Hv0, Hv1, Hv2⟩
  ihave H0 := (staging_cut (F := F) c) $$ H0
  icases H0 with ⟨Hg0, Hg1⟩
  ihave H1 := (send_cut (F := F) c) $$ H1
  ihave #Hr0 := (inv_reached m K (c, copyIx 0)) $$ HI
  ihave #Hr1 := (inv_reached m K (c, copyIx 1)) $$ HI
  rw [kcell_copy, kcell_copy]
  isplitr [Hrest]
  · isplitl [Ht]; · iexact Ht
    isplitl [Ho]; · iexact Ho
    isplitl [HtB0 Hv0]
    · isplitl [HtB0] <;> iassumption
    isplitl [HtB1 Hv1]
    · isplitl [HtB1] <;> iassumption
    isplitl [HtB2 Hv2]
    · isplitl [HtB2] <;> iassumption
    isplitl [HaB]; · iexact HaB
    isplitl [HcB]; · iexact HcB
    isplitl [HaC0 HtC0]
    · isplitl [HaC0]; · iexact HaC0
      isplitr; · iexact Hr0
      iexact HtC0
    isplitl [HaC1 HtC1]
    · isplitl [HaC1]; · iexact HaC1
      isplitr; · iexact Hr1
      iexact HtC1
    isplitl [Hg0]; · iexact Hg0
    isplitl [Hg1]; · iexact Hg1
    isplitl [HaS HtS HtR]
    · isplitl [HaS]; · iexact HaS
      isplitl [HtS] <;> iassumption
    isplitl [HaR HcR]
    · isplitl [HaR] <;> iassumption
    isplitl [H1]; · iexact H1
    iexact Hx
  · iexact Hrest

theorem leave : iprop(Exit m c ∗ Xrest m c) ⊢ iprop(Φ₁ m c ∗ Table c ∗ OW c 0) := by
  unfold Exit Φ₁ scratch arrays1
  rw [sems_eq]
  iintro ⟨⟨Ht, Ho, HzB, HzC0, HzC1, Hg0, Hg1, HzS, HzR, Hs, Hx, Hv⟩, Hrest⟩
  ihave Hx := (input_cut m c).2 $$ [Hx Hrest]
  · isplitl [Hx] <;> iassumption
  ihave Hg := (staging_join (F := F) c (fun _ => Classical.choice (Elt.nonempty F .f32))) $$ [Hg0 Hg1]
  · isplitl [Hg0] <;> iassumption
  ihave Hs := (send_join (F := F) c (fun _ => Classical.choice (Elt.nonempty F .bf16))) $$ Hs
  ihave Hv := (Entails.of_eq (show (bigSep Finset.univ fun t => recvPay m c t) = (((c : Thread nD τ).loc main_v1) ↦{fullShare} fin m c : sProp 𝕄) from
    (result_cut (F := F) c (fin m c)).symm)) $$ Hv
  isplitr [Ht Ho]
  · isplitl [HzB HzC0 HzC1 HzS HzR]
    · isplitl [HzB]; · iexact HzB
      isplitl [HzC0 HzC1]
      · isplitl [HzC0] <;> iassumption
      isplitl [HzS] <;> iassumption
    isplitl [Hg Hs]
    · isplitl [Hg] <;> iassumption
    isplitl [Hx] <;> iassumption
  · isplitl [Ht] <;> iassumption

omit [FloatOps F] in
theorem owns_whole_eq (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre : sProp 𝕄 :=
  iprop(Φ₀ m c ∗ (dats m ρ 0 c).owesAt () t0_0.castSucc ∗ (∃ d, stg c cc0_stg0_0 ((dats m ρ 0 c).before (0 : Fin 1) t0_0 d)))
def bodyPost : sProp 𝕄 :=
  iprop(Φ₁ m c ∗ (dats m ρ 0 c).owesAt () t0_0.succ ∗ stg c cc0_stg0_0 (second m c))

theorem fetched_second (d) : (dats m ρ 0 c).fetched (0 : Fin 1) t0_0 d = second m c := by
  have h : (dats m ρ 0 c).fetched (0 : Fin 1) t0_0 d = ((cfg0.win (0 : Fin 1)).blk t0_0).view.read (Elt F) (second m c) := rfl
  rw [h]
  funext i
  show second m c (((cfg0.win (0 : Fin 1)).blk t0_0).view.emb i) = second m c i
  refine congrArg _ (funext fun a => Fin.ext ?_)
  show 0 * _ + 1 * (i a).val = (i a).val
  omega

set_option maxRecDepth 30000 in
theorem body_obligation (hpi : second m c = swap (F := F)) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole main_arg0) (Memref.isWhole_whole _) (Memref.whole cc0_stg0_0) (Memref.isWhole_whole _) (Memref.whole main_v1) (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7 cc0_scratch8
        cc0_scratch9 cc0_scratch10 cc0_scratch11 cc0_scratch12) (fun _ => bodyPost m ρ c)
  unfold bodyPre Φ₀ start
  iintro ⟨⟨⟨⟨%K, #HI, Hl⟩, Hc, Hv⟩, Hs⟩, Ho, ⟨%d0, %g0, %hg0, Ht⟩⟩
  have hx : g0 = swap (F := F) := by rw [← hpi, hg0]; unfold Dat.before; rw [if_pos (fetch0_0 t0_0)]; exact fetched_second m ρ c d0
  subst hx
  unfold Dat.owesAt Pipeline.owesWithin
  icases Ho with ⟨%W, %hW, HO⟩
  rw [show (dats m ρ 0 c).owed t0_0.castSucc = O₀ c from rfl]
  ihave He := (enter m K c) $$ [Hl Hc Hv Hs Ht HO]
  · isplitr; · iexact HI
    isplitl [Hl]; · iexact Hl
    isplitl [Hc]; · iexact Hc
    isplitl [Hv]; · iexact Hv
    isplitl [Hs]; · iexact Hs
    isplitl [Ht]; · iexact Ht
    iexists W; iexact HO
  icases He with ⟨He, Hrest⟩
  iapply (body m K c) $$ [He]
  · isplitr; · iexact HI
    iexact He
  iintro Hx
  ihave Hx := (leave m c) $$ [Hx Hrest]
  · isplitl [Hx] <;> iassumption
  icases Hx with ⟨HΦ, Ht, Ho⟩
  unfold bodyPost Dat.owesAt Pipeline.owesWithin OW
  icases Ho with ⟨%W', HO⟩
  rw [show (dats m ρ 0 c).owed t0_0.succ = 0 from rfl]
  isplitl [HΦ]; · iexact HΦ
  isplitl [HO]
  · iexists W'
    isplitr; · ipureintro; exact fun _ _ => Or.inl trivial
    iexact HO
  iexists _; isplitr; · (ipureintro; exact hpi.symm)
  iexact Ht

end Body

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' Inv records arrays0
  iintro ⟨HV, #Hlev, Hcr, -, %K, #HR, Hl⟩
  icases HR with ⟨#H1, #H2⟩
  ihave Hc := (creds_intro (F := F) c) $$ Hcr
  imodintro
  isplitl
  · isplitl [Hl]
    · iexists K
      isplitr
      · isplitr; · iexact Hlev
        isplitr; · iexact H1
        iexact H2
      iexact Hl
    isplitl [Hc]; · iexact Hc
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What the region leaves beside its scoped part. -/
def left (c : Dev nD) : sProp 𝕄 := iprop(unscopedSems0 c ∗ arrays1 m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left sems scratch
  iintro ⟨⟨Hu, Ho⟩, Hs, Ha⟩
  isplitl [Hu Ha]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hs : (cfg0.win w).sem s = (0 : Fin 67) := by fin_cases w; fin_cases s; rfl
    have h := mayWait_stage (F := F) c ((dats m ρ 0 c).owed t) (by
      rcases t with ⟨_ | _, ht⟩
      · exact Or.inl rfl
      · exact Or.inr rfl)
    rw [← hs] at h
    exact h

def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_v1) = fin m c

theorem left_read (c : Dev nD) (s' : Phys nD τ sig (Elt F)) :
    iprop(left m c ∗ emp ∗ SI s') ⊢ |={Set.univ}=> (iprop(⌜Ends m c s'.mem⌝ ∗ SI s') : sProp 𝕄) := by
  unfold left arrays1
  iintro ⟨⟨Hu, Hx, Hv⟩, -, HSI⟩
  icombine HSI Hx gives %h0
  icombine HSI Hv gives %h1
  imod (Pipeline.unscopedSems0_read (X := unscopedSems0 c) (c := c) fupd_intro s') $$ [Hu HSI] with ⟨%h, HSI⟩
  · isplitl [Hu] <;> iassumption
  imodintro
  isplitr; · ipureintro; exact ⟨h, Buf.eq_of_forall_mem_univ h0, Buf.eq_of_forall_mem_univ h1⟩
  iexact HSI

/-- After the run: on every device the arguments as they were and the result; no counter is left. -/
def Done (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = fin m c) ∧ r.2.sem = fun _ => 0

set_option maxRecDepth 30000 in
theorem run_main (hpi : ∀ c : Dev nD, second m c = swap (F := F)) :
    θ_run defs (onTc (τ := τ) (main (F := F))) (initMem m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c (hpi c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := Ends m)
    (hY := left_read m)
    (hQ := fun _ h hs => ⟨fun c => ⟨(h c).2.2.2.1, ((h c).1 0).trans ((dats (F := F) m ρ 0 c).arrAt_in (0 : Fin 1) rfl _), (h c).2.2.2.2⟩,
      sem_eq_zero hs fun c => (h c).2.2.1⟩)

end Cert.Swap

end
-- ==== Proof.Words.lean ====
/-
What the precondition says of a device's table: it holds the words 1 and 0, the exchange of two.
-/
module

public import proofs.«01_k».proof.Proof.Run
public import proofs.«01_k».proof.Defs

@[expose] public section

noncomputable section

namespace Cert.Swap

open Idealize.ShloMosaic

instance preFacts : Cert.Pre_pi_swaps_Kernel.Facts where
  slices_S2_S1_0 := by decide
  shapeCasts_S1_S_ := by decide
  slices_S2_S1_1 := by decide

instance preFacts' : Cert.Pre_pi_swaps_ReferenceIdeal.Facts where
  slices_S2_S1_0 := by decide
  shapeCasts_S1_S_ := by decide
  slices_S2_S1_1 := by decide

/-- The two places of a table. -/
def place (k : Fin 2) : (⟨1, ![2]⟩ : Shape).Idx := fun a => ⟨k.val, by fin_cases a; exact k.isLt⟩

theorem place_self (i : (⟨1, ![2]⟩ : Shape).Idx) : i = place (i 0) := by
  funext a; fin_cases a; rfl

/-- A conjunction of two comparisons is true only where both are. -/
theorem both_of_andi : ∀ p q : Bool, IntOp.andi (BitVec.ofBool p) (BitVec.ofBool q) = 1#1 → p = true ∧ q = true := by decide

variable {F : FTy → Type} [FloatOps F]

theorem pre_at (x : FVec F ⟨3, ![1, 4096, 2048]⟩ .f32) (t : IVec ⟨1, ![2]⟩ 32) (j : (⟨0, ![]⟩ : Shape).Idx) :
    Cert.Pre_pi_swaps_Kernel.fn x t j = IntOp.andi (BitVec.ofBool (t (place 0) == 1#32)) (BitVec.ofBool (t (place 1) == 0#32)) := by
  have e0 : extractStridedSlice Cert.Pre_pi_swaps_Kernel.S1 ![0] t Cert.Pre_pi_swaps_Kernel.Facts.slices_S2_S1_0 = fun _ => t (place 0) :=
    funext fun i => congrArg t (funext fun a => by fin_cases a; apply Fin.ext; show 0 + (i 0).val = 0; have := (i 0).isLt; change (i 0).val < 1 at this; omega)
  have e1 : extractStridedSlice Cert.Pre_pi_swaps_Kernel.S1 ![1] t Cert.Pre_pi_swaps_Kernel.Facts.slices_S2_S1_1 = fun _ => t (place 1) :=
    funext fun i => congrArg t (funext fun a => by fin_cases a; apply Fin.ext; show 1 + (i 0).val = 1; have := (i 0).isLt; change (i 0).val < 1 at this; omega)
  unfold Cert.Pre_pi_swaps_Kernel.fn
  dsimp only
  rw [e0, e1]
  rfl

/-- Where the precondition holds the table is the exchange. -/
theorem table_of_pre (x : FVec F ⟨3, ![1, 4096, 2048]⟩ .f32) (t : IVec ⟨1, ![2]⟩ 32)
    (h : Cert.Pre_pi_swaps_Kernel.fn x t = fun _ => 1#1) : t = swap (F := F) := by
  have hj := congrFun h (fun a => a.elim0)
  rw [pre_at] at hj
  obtain ⟨h0, h1⟩ := both_of_andi _ _ hj
  funext i
  rw [place_self i]
  generalize i 0 = k
  change Fin 2 at k
  fin_cases k
  · exact eq_of_beq h0
  · exact eq_of_beq h1

end Cert.Swap

end
-- ==== Proof.Answer.lean ====
/-
The run of the reference, a program of host operations on one device, and its result where the second argument is the
exchange of two: the two pages of the first argument change places and are narrowed.
-/
module

public import proofs.«01_k».proof.Proof.Gen.ReferenceIdeal
public import Idealize.ShloMosaic.Lib.StableHlo.Run
public import Idealize.ShloMosaic.Lib.StableHlo.RunHlo
public import Idealize.ShloMosaic.Lib.Quiescent
public import Idealize.ShloMosaic.Lib.Claim

@[expose] public section

noncomputable section

namespace Cert.Answer

open Cert.ReferenceIdeal Cert.ReferenceIdeal.Gen
open Idealize.ShloMosaic Idealize.ShloMosaic.TcCoe Idealize.ShloMosaic.StableHlo Idealize.SL.Sem

variable {F : FTy → Type} [FloatOps F]

/-- The order of the pages that the reference takes from its second argument: -/
def order (p : IVec S2 32) : IVec S2 32 := (Host.sort2 S2 0 comparator_i32_i32_d0 p (iotaInDim S2 32 0)).2

/-- a negative place counts from the end; -/
def wrapped (p : IVec S2 32) : IVec S2 32 :=
  select (cmpi .slt (order p) (broadcastInDim S2 ![] bcast_S_S2 (constantI S_ 32 0#32)))
    (addi (order p) (broadcastInDim S2 ![] bcast_S_S2 (constantI S_ 32 2#32))) (order p)

/-- the result. -/
def answer (x : FVec F S2x4096x2048 .f32) (p : IVec S2 32) : FVec F S2x4096x2048 .bf16 :=
  truncf .bf16 (Host.gather gather_S2x4096x2048_S2x1_S2x4096x2048_12_0_n_n_0_1_140962048 x
    (broadcastInDim S2x1 ![0] bcast_S2_S2x1_0 (wrapped p))) bitsLt_bf16_f32

/-- The entry of a gather of whole pages: where the places hold page number `b` at `i`'s page, it is `b`'s entry. -/
theorem gather_page {α : Type} (x : S2x4096x2048.Idx → α) (w : IVec S2x1 32) (i : S2x4096x2048.Idx) (b : Fin 2)
    (hb : ∀ k : S2x1.Idx, (k 0).val = (i 0).val → w k = BitVec.ofNat 32 b.val) :
    Host.gather gather_S2x4096x2048_S2x1_S2x4096x2048_12_0_n_n_0_1_140962048 x w i
      = x fun a => ⟨if a.val = 0 then b.val else (i a).val, by
          split
          · rename_i h; obtain rfl : a = 0 := Fin.ext h; exact b.isLt
          · exact (i a).isLt⟩ := by
  unfold Host.gather
  refine congrArg x (funext fun a => Fin.ext ?_)
  have hs : ∀ k : S2x1.Idx, (k 0).val = (i 0).val → min (w k).toInt.toNat 1 = b.val := fun k hk => by
    rw [hb k hk]; clear hb; revert b; decide
  match a with
  | ⟨0, _⟩ => refine hs _ ?_; rfl
  | ⟨1, _⟩ => show 0 + 0 + (i 1).val = (i 1).val; omega
  | ⟨2, _⟩ => show 0 + 0 + (i 2).val = (i 2).val; omega

/-- The exchange of two. -/
def flip (k : S2.Idx) : BitVec 32 := if (k 0).val = 0 then 1#32 else 0#32

theorem wrapped_flip : wrapped flip = flip := by
  funext i
  obtain ⟨k, rfl⟩ : ∃ k : Fin 2, i = fun a => ⟨k.val, by fin_cases a; exact k.isLt⟩ :=
    ⟨i 0, funext fun a => by fin_cases a; rfl⟩
  revert k
  decide

/-- At the exchange of two the result holds the other page, narrowed. -/
theorem answer_flip (x : FVec F S2x4096x2048 .f32) (i : S2x4096x2048.Idx) :
    answer x flip i = FloatOps.truncf .bf16 bitsLt_bf16_f32 (x fun a => ⟨if a.val = 0 then 1 - (i 0).val else (i a).val, by
          split
          · rename_i h; obtain rfl : a = 0 := Fin.ext h; show 1 - _ < 2; omega
          · exact (i a).isLt⟩) := by
  have hi : (i 0).val < 2 := (i 0).isLt
  unfold answer
  rw [wrapped_flip]
  refine congrArg (FloatOps.truncf .bf16 bitsLt_bf16_f32) (gather_page x _ i ⟨1 - (i 0).val, by omega⟩ fun k hk => ?_)
  show flip _ = BitVec.ofNat 32 (1 - (i 0).val)
  rw [← hk]
  have h2 : (k 0).val < 2 := hk ▸ hi
  show (if (k 0).val = 0 then 1#32 else 0#32) = _
  split
  · rename_i h; rw [h]
  · rename_i h; rw [show (k 0).val = 1 by omega]

theorem run_answer (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v8)
          = answer (m ((c.tc : Thread nD τ).loc main_arg0)) (m ((c.tc : Thread nD τ).loc main_arg1)))
      ∧ r.2.sem = fun _ => 0 := by
  refine θ_run_mono (?_ : θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v8)
          = answer (m ((c.tc : Thread nD τ).loc main_arg0)) (m ((c.tc : Thread nD τ).loc main_arg1))))
    fun r h => ⟨h, sem_eq_zero_of_no_sems (by rfl) r.2⟩
  hlo_run
  rfl

end Cert.Answer

end
-- ==== Proof.Pages.lean ====
/-
A device's result is its block of the reference's: along y a device ends with the other page.
-/
module

public import proofs.«01_k».proof.Proof.Run
public import proofs.«01_k».proof.Proof.Answer
public import Idealize.ShloMosaic.Lib.Layout

@[expose] public section

noncomputable section

namespace Cert.Swap

open Cert.KernelIdeal Cert.KernelIdeal.Gen
open Idealize.ShloMosaic
open Idealize.ShloMosaic.TcCoe

variable {F : FTy → Type} [FloatOps F] (m : (ℓ : Loc nD τ sig) → Buf (Elt F) ℓ)

/-- The tables of the two sides are one. -/
theorem swap_flip : swap (F := F) = Cert.Answer.flip := rfl

/-- Device `c`'s page of a whole array. -/
abbrev page {α : Type} (c : Dev nD) (v : (⟨3, ![2, 4096, 2048]⟩ : Shape).Idx → α) : (⟨3, ![1, 4096, 2048]⟩ : Shape).Idx → α :=
  Layout.blockN ⟨3, ![1, 4096, 2048]⟩ ⟨3, ![2, 4096, 2048]⟩ (Layout.meshBlock [2, 2, 2] ![[1], [], []] c) v

theorem fin_page (x : FVec F ⟨3, ![2, 4096, 2048]⟩ .f32) (hx : ∀ c : Dev nD, X m c = page c x) (c : Dev nD) :
    fin m c = page c (Cert.Answer.answer x Cert.Answer.flip) := by
  funext i
  show FloatOps.truncf .bf16 bitsLt_bf16_f32 (X m (org c (cix i)) i) = _
  rw [hx]
  unfold page
  rw [Layout.blockN_apply, Layout.blockN_apply, Cert.Answer.answer_flip]
  refine congrArg (FloatOps.truncf .bf16 bitsLt_bf16_f32) (congrArg x (funext fun a => Fin.ext ?_))
  have hi : (i 0).val < 1 := (i 0).isLt
  have hy := org_y c (cix i)
  match a with
  | ⟨0, _⟩ =>
    show ((org c (cix i)).val / 2 % 2 * 1 + 0) * 1 + (i 0).val = 1 - ((c.val / 2 % 2 * 1 + 0) * 1 + (i 0).val)
    omega
  | ⟨1, _⟩ => rfl
  | ⟨2, _⟩ => rfl

end Cert.Swap

end
-- ==== Proof.Same.lean ====
/-
The kernel and its idealized form have one text, so one run.
-/
module

public import proofs.«01_k».proof.Proof.Gen.Kernel
public import proofs.«01_k».proof.Proof.Run

@[expose] public section

noncomputable section

namespace Cert.Swap

open Idealize.ShloMosaic Idealize.ShloMosaic.TcCoe Idealize.SL.Sem
open Cert.Kernel.Gen Cert.KernelIdeal.Gen

variable {F : FTy → Type} [FloatOps F]

theorem same_main : Cert.Kernel.main (F := F) = Cert.KernelIdeal.main (F := F) := rfl

set_option maxHeartbeats 2000000 in
theorem same_body : Cert.Kernel.cc0_body (F := F) = Cert.KernelIdeal.cc0_body (F := F) := rfl

theorem same_table : Cert.Kernel.defs₀ (F := F) = Cert.KernelIdeal.defs₀ (F := F) := by
  refine congrArg (Defs.onTc) (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _
  | ⟨_ + 1, h⟩, _ => exact absurd h (Nat.not_lt.2 (Nat.le_add_left _ _))

theorem same_defs : Cert.Kernel.defs (F := F) = Cert.KernelIdeal.defs (F := F) := congrArg (Pipeline.defs _) same_table

/-- A run of the idealized form is one of the kernel. -/
theorem same_run (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  have e : θ_run (Cert.Kernel.defs (F := F)) (onTc (τ := Cert.Kernel.τ) (Cert.Kernel.main (F := F)))
      = θ_run (Cert.KernelIdeal.defs (F := F)) (onTc (τ := Cert.KernelIdeal.τ) (Cert.KernelIdeal.main (F := F))) :=
    congrArg₂ (fun D P => θ_run D (onTc P)) same_defs same_main
  rw [e]
  exact h

end Cert.Swap

end
-- ==== Proof.lean ====
/-
The certificate: the frames of the kernel, of its idealized form and of the reference, and the agreement of the two over
the extended reals. `Proof/Run.lean` has the run of the kernel over any float values, `Proof/Answer.lean` that of the
reference, `Proof/Words.lean` the table that the precondition asks for, `Proof/Pages.lean` the two results compared.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Words
public import proofs.«01_k».proof.Proof.Pages
public import proofs.«01_k».proof.Proof.Same
public import Idealize.ShloMosaic.Adequacy
public import Idealize.ShloMosaic.Init

@[expose] public section

noncomputable section

namespace Cert.Proof

open Idealize.ShloMosaic Idealize.SL.Sem

theorem frame_kernel : Cert.quiescent_Kernel := fun m ρ h =>
  Cert.Swap.same_run (F := Bits) m ρ _ ((θ_run Cert.KernelIdeal.defs _ _).mono
    (fun r (d : Cert.Swap.Done (F := Bits) m r) => ⟨fun c => ⟨(d.1 c).1, (d.1 c).2.1⟩, d.2⟩)
    (Cert.Swap.run_main (F := Bits) m ρ fun c => Cert.Swap.table_of_pre _ _ (h c)))

theorem frame_ideal : Cert.quiescent_KernelIdeal := fun m ρ h =>
  (θ_run Cert.KernelIdeal.defs _ _).mono (fun _ d => ⟨fun c => ⟨(d.1 c).1, (d.1 c).2.1⟩, d.2⟩)
    (Cert.Swap.run_main (F := Ideal) m ρ fun c => Cert.Swap.table_of_pre _ _ (h c))

theorem frame_reference : Cert.quiescent_ReferenceIdeal := fun m ρ _ =>
  (θ_run Cert.ReferenceIdeal.defs _ _).mono (fun _ d => ⟨fun c => ⟨(d.1 c).1, (d.1 c).2.1⟩, d.2⟩)
    (Cert.Answer.run_answer (F := Ideal) m ρ)

theorem frame_reference_pre : Cert.quiescent_ReferenceIdeal_pre_pi_swaps_ReferenceIdeal := fun m ρ _ => frame_reference m ρ trivial

theorem agree : Cert.algebraic_KernelIdeal_ReferenceIdeal := fun m ρ m' ρ' h hagree => by
  have hs : ∀ c : Dev Cert.KernelIdeal.nD, Cert.Swap.second m c = Cert.Swap.swap (F := Ideal) := fun c => Cert.Swap.table_of_pre _ _ (h c)
  have hp : m' (((0 : Dev Cert.ReferenceIdeal.nD).tc : Thread Cert.ReferenceIdeal.nD Cert.ReferenceIdeal.τ).loc Cert.ReferenceIdeal.main_arg1)
      = Cert.Answer.flip := (hagree 0).2.symm.trans (hs 0)
  refine ⟨Cert.Answer.answer (F := Ideal) (m' (((0 : Dev Cert.ReferenceIdeal.nD).tc : Thread Cert.ReferenceIdeal.nD Cert.ReferenceIdeal.τ).loc Cert.ReferenceIdeal.main_arg0)) Cert.Answer.flip, ?_, ?_⟩
  · exact (θ_run Cert.KernelIdeal.defs _ _).mono
      (fun _ d c => ⟨(d.1 c).2.2.trans (Cert.Swap.fin_page m _ (fun c => (hagree c).1) c), (d.1 c).1, (d.1 c).2.1⟩)
      (Cert.Swap.run_main (F := Ideal) m ρ hs)
  · exact (θ_run Cert.ReferenceIdeal.defs _ _).mono
      (fun _ d => ⟨(d.1 0).2.2.trans (by rw [hp]), (d.1 0).1, (d.1 0).2.1⟩)
      (Cert.Answer.run_answer (F := Ideal) m' ρ')

theorem claim : Cert.Claim :=
  ⟨Cert.Kernel.Gen.facts, Cert.KernelIdeal.Gen.facts, Cert.ReferenceIdeal.Gen.facts, Cert.Swap.preFacts, Cert.Swap.preFacts',
    frame_kernel, frame_ideal, frame_reference, frame_reference_pre, trivial, agree⟩

end Cert.Proof

end
